-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![8192, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![8192, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S2x4x256x128 : Shape := ⟨4, ![2, 4, 256, 128]⟩
abbrev S48x256x128 : Shape := ⟨3, ![48, 256, 128]⟩
abbrev S48 : Shape := ⟨1, ![48]⟩
abbrev S_ : Shape := ⟨0, ![]⟩
abbrev S1024x128 : Shape := ⟨2, ![1024, 128]⟩
abbrev S1023x128 : Shape := ⟨2, ![1023, 128]⟩
abbrev S1x128 : Shape := ⟨2, ![1, 128]⟩
abbrev S1022x128 : Shape := ⟨2, ![1022, 128]⟩
abbrev S2x128 : Shape := ⟨2, ![2, 128]⟩
abbrev S1020x128 : Shape := ⟨2, ![1020, 128]⟩
abbrev S4x128 : Shape := ⟨2, ![4, 128]⟩
abbrev S1016x128 : Shape := ⟨2, ![1016, 128]⟩
abbrev S8x128 : Shape := ⟨2, ![8, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S32x1x1 : Shape := ⟨3, ![32, 1, 1]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S16x1x1 : Shape := ⟨3, ![16, 1, 1]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S8x1x1 : Shape := ⟨3, ![8, 1, 1]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S4x1x1 : Shape := ⟨3, ![4, 1, 1]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S2x1x1 : Shape := ⟨3, ![2, 1, 1]⟩
abbrev S1x2x512x128 : Shape := ⟨4, ![1, 2, 512, 128]⟩
abbrev S1x1x512x128 : Shape := ⟨4, ![1, 1, 512, 128]⟩
abbrev S1x512x128 : Shape := ⟨3, ![1, 512, 128]⟩
abbrev S1x1x1 : Shape := ⟨3, ![1, 1, 1]⟩
abbrev S256x128 : Shape := ⟨2, ![256, 128]⟩
abbrev S1x1x256x128 : Shape := ⟨4, ![1, 1, 256, 128]⟩
abbrev S1 : Shape := ⟨1, ![1]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S1024x256, .bf16⟩
  | .hbm, ⟨1, _⟩ => ⟨S1024x256, .bf16⟩
  | .local _ .vmem, ⟨0, _⟩ => ⟨S1024x256, .bf16⟩
  | .local _ .vmem, ⟨1, _⟩ => ⟨S1024x256, .bf16⟩
  | .local _ .vmem, ⟨2, _⟩ => ⟨S2x4x256x128, .bf16⟩
  | .local _ .vmem, ⟨3, _⟩ => ⟨S48x256x128, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_2 : BitVec 32 := 1#32
  let v6 : BitVec 32 := Scalar.muli v5 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.xori v2 c2_i32
  let c1_i32_4 : BitVec 32 := 1#32
  let v9 : BitVec 32 := Scalar.muli v8 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_7 : BitVec 32 := 1#32
  let v12 : BitVec 32 := Scalar.muli v11 c1_i32_7
  let v13 : BitVec 32 := Scalar.addi c0_i32_8 v12
  v13.toNat
def k0_dev4 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_240 : BitVec 32 := 1#32
  let v1351 : BitVec 32 := Scalar.xori v2 c1_i32_240
  let c1_i32_246 : BitVec 32 := 1#32
  let v1352 : BitVec 32 := Scalar.muli v1351 c1_i32_246
  let v1353 : BitVec 32 := Scalar.addi c0_i32_247 v1352
  v1353.toNat
def k0_dev5 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_255 : BitVec 32 := 1#32
  let v1365 : BitVec 32 := Scalar.xori v2 c1_i32_255
  let c1_i32_261 : BitVec 32 := 1#32
  let v1366 : BitVec 32 := Scalar.muli v1365 c1_i32_261
  let v1367 : BitVec 32 := Scalar.addi c0_i32_262 v1366
  v1367.toNat
def k0_dev6 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_270 : BitVec 32 := 1#32
  let v1379 : BitVec 32 := Scalar.xori v2 c1_i32_270
  let c1_i32_276 : BitVec 32 := 1#32
  let v1380 : BitVec 32 := Scalar.muli v1379 c1_i32_276
  let v1381 : BitVec 32 := Scalar.addi c0_i32_277 v1380
  v1381.toNat
def k0_dev7 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_285 : BitVec 32 := 1#32
  let v1393 : BitVec 32 := Scalar.xori v2 c1_i32_285
  let c1_i32_291 : BitVec 32 := 1#32
  let v1394 : BitVec 32 := Scalar.muli v1393 c1_i32_291
  let v1395 : BitVec 32 := Scalar.addi c0_i32_292 v1394
  v1395.toNat
def k0_dev8 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_535 : BitVec 32 := 1#32
  let v2741 : BitVec 32 := Scalar.xori v2 c1_i32_535
  let c1_i32_540 : BitVec 32 := 1#32
  let v2742 : BitVec 32 := Scalar.muli v2741 c1_i32_540
  let v2743 : BitVec 32 := Scalar.addi c0_i32_541 v2742
  v2743.toNat
def k0_dev9 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_550 : BitVec 32 := 1#32
  let v2755 : BitVec 32 := Scalar.xori v2 c1_i32_550
  let c1_i32_555 : BitVec 32 := 1#32
  let v2756 : BitVec 32 := Scalar.muli v2755 c1_i32_555
  let v2757 : BitVec 32 := Scalar.addi c0_i32_556 v2756
  v2757.toNat
def k0_dev10 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_565 : BitVec 32 := 1#32
  let v2769 : BitVec 32 := Scalar.xori v2 c1_i32_565
  let c1_i32_570 : BitVec 32 := 1#32
  let v2770 : BitVec 32 := Scalar.muli v2769 c1_i32_570
  let v2771 : BitVec 32 := Scalar.addi c0_i32_571 v2770
  v2771.toNat
def k0_dev11 (d0 : Dev nD) : Nat :=
  let c0_i32_586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_580 : BitVec 32 := 1#32
  let v2783 : BitVec 32 := Scalar.xori v2 c1_i32_580
  let c1_i32_585 : BitVec 32 := 1#32
  let v2784 : BitVec 32 := Scalar.muli v2783 c1_i32_585
  let v2785 : BitVec 32 := Scalar.addi c0_i32_586 v2784
  v2785.toNat
def k0_dev12 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_748 : BitVec 32 := 2#32
  let v3150 : BitVec 32 := Scalar.xori v2 c2_i32_748
  let c1_i32_754 : BitVec 32 := 1#32
  let v3151 : BitVec 32 := Scalar.muli v3150 c1_i32_754
  let v3152 : BitVec 32 := Scalar.addi c0_i32_755 v3151
  v3152.toNat
def k0_dev13 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_764 : BitVec 32 := 2#32
  let v3164 : BitVec 32 := Scalar.xori v2 c2_i32_764
  let c1_i32_769 : BitVec 32 := 1#32
  let v3165 : BitVec 32 := Scalar.muli v3164 c1_i32_769
  let v3166 : BitVec 32 := Scalar.addi c0_i32_770 v3165
  v3166.toNat
def k0_dev14 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_779 : BitVec 32 := 2#32
  let v3178 : BitVec 32 := Scalar.xori v2 c2_i32_779
  let c1_i32_784 : BitVec 32 := 1#32
  let v3179 : BitVec 32 := Scalar.muli v3178 c1_i32_784
  let v3180 : BitVec 32 := Scalar.addi c0_i32_785 v3179
  v3180.toNat
def k0_dev15 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_794 : BitVec 32 := 2#32
  let v3192 : BitVec 32 := Scalar.xori v2 c2_i32_794
  let c1_i32_799 : BitVec 32 := 1#32
  let v3193 : BitVec 32 := Scalar.muli v3192 c1_i32_799
  let v3194 : BitVec 32 := Scalar.addi c0_i32_800 v3193
  v3194.toNat
def k0_dev16 (d0 : Dev nD) : Nat :=
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_959 : BitVec 32 := 2#32
  let v3559 : BitVec 32 := Scalar.xori v2 c2_i32_959
  let c1_i32_964 : BitVec 32 := 1#32
  let v3560 : BitVec 32 := Scalar.muli v3559 c1_i32_964
  let v3561 : BitVec 32 := Scalar.addi c0_i32_965 v3560
  v3561.toNat
def k0_dev17 (d0 : Dev nD) : Nat :=
  let c0_i32_980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_974 : BitVec 32 := 2#32
  let v3573 : BitVec 32 := Scalar.xori v2 c2_i32_974
  let c1_i32_979 : BitVec 32 := 1#32
  let v3574 : BitVec 32 := Scalar.muli v3573 c1_i32_979
  let v3575 : BitVec 32 := Scalar.addi c0_i32_980 v3574
  v3575.toNat
def k0_dev18 (d0 : Dev nD) : Nat :=
  let c0_i32_995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_989 : BitVec 32 := 2#32
  let v3587 : BitVec 32 := Scalar.xori v2 c2_i32_989
  let c1_i32_994 : BitVec 32 := 1#32
  let v3588 : BitVec 32 := Scalar.muli v3587 c1_i32_994
  let v3589 : BitVec 32 := Scalar.addi c0_i32_995 v3588
  v3589.toNat
def k0_dev19 (d0 : Dev nD) : Nat :=
  let c0_i32_1010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1004 : BitVec 32 := 2#32
  let v3601 : BitVec 32 := Scalar.xori v2 c2_i32_1004
  let c1_i32_1009 : BitVec 32 := 1#32
  let v3602 : BitVec 32 := Scalar.muli v3601 c1_i32_1009
  let v3603 : BitVec 32 := Scalar.addi c0_i32_1010 v3602
  v3603.toNat
def k0_dev20 (d0 : Dev nD) : Nat :=
  let c0_i32_1053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1046 : BitVec 32 := 1#32
  let v3640 : BitVec 32 := Scalar.xori v2 c1_i32_1046
  let c1_i32_1052 : BitVec 32 := 1#32
  let v3641 : BitVec 32 := Scalar.muli v3640 c1_i32_1052
  let v3642 : BitVec 32 := Scalar.addi c0_i32_1053 v3641
  v3642.toNat
def k0_dev21 (d0 : Dev nD) : Nat :=
  let c0_i32_1096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1090 : BitVec 32 := 1#32
  let v3679 : BitVec 32 := Scalar.xori v2 c1_i32_1090
  let c1_i32_1095 : BitVec 32 := 1#32
  let v3680 : BitVec 32 := Scalar.muli v3679 c1_i32_1095
  let v3681 : BitVec 32 := Scalar.addi c0_i32_1096 v3680
  v3681.toNat
def k0_dev22 (d0 : Dev nD) : Nat :=
  let c0_i32_1139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1133 : BitVec 32 := 1#32
  let v3718 : BitVec 32 := Scalar.xori v2 c1_i32_1133
  let c1_i32_1138 : BitVec 32 := 1#32
  let v3719 : BitVec 32 := Scalar.muli v3718 c1_i32_1138
  let v3720 : BitVec 32 := Scalar.addi c0_i32_1139 v3719
  v3720.toNat
def k0_dev23 (d0 : Dev nD) : Nat :=
  let c0_i32_1182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1176 : BitVec 32 := 1#32
  let v3757 : BitVec 32 := Scalar.xori v2 c1_i32_1176
  let c1_i32_1181 : BitVec 32 := 1#32
  let v3758 : BitVec 32 := Scalar.muli v3757 c1_i32_1181
  let v3759 : BitVec 32 := Scalar.addi c0_i32_1182 v3758
  v3759.toNat
def k0_dev24 (d0 : Dev nD) : Nat :=
  let c0_i32_1226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1219 : BitVec 32 := 1#32
  let v3796 : BitVec 32 := Scalar.xori v2 c1_i32_1219
  let c1_i32_1225 : BitVec 32 := 1#32
  let v3797 : BitVec 32 := Scalar.muli v3796 c1_i32_1225
  let v3798 : BitVec 32 := Scalar.addi c0_i32_1226 v3797
  v3798.toNat
def k0_dev25 (d0 : Dev nD) : Nat :=
  let c0_i32_1269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1263 : BitVec 32 := 1#32
  let v3835 : BitVec 32 := Scalar.xori v2 c1_i32_1263
  let c1_i32_1268 : BitVec 32 := 1#32
  let v3836 : BitVec 32 := Scalar.muli v3835 c1_i32_1268
  let v3837 : BitVec 32 := Scalar.addi c0_i32_1269 v3836
  v3837.toNat
def k0_dev26 (d0 : Dev nD) : Nat :=
  let c0_i32_1312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1306 : BitVec 32 := 1#32
  let v3874 : BitVec 32 := Scalar.xori v2 c1_i32_1306
  let c1_i32_1311 : BitVec 32 := 1#32
  let v3875 : BitVec 32 := Scalar.muli v3874 c1_i32_1311
  let v3876 : BitVec 32 := Scalar.addi c0_i32_1312 v3875
  v3876.toNat
def k0_dev27 (d0 : Dev nD) : Nat :=
  let c0_i32_1355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1349 : BitVec 32 := 1#32
  let v3913 : BitVec 32 := Scalar.xori v2 c1_i32_1349
  let c1_i32_1354 : BitVec 32 := 1#32
  let v3914 : BitVec 32 := Scalar.muli v3913 c1_i32_1354
  let v3915 : BitVec 32 := Scalar.addi c0_i32_1355 v3914
  v3915.toNat
def k0_dev28 (d0 : Dev nD) : Nat :=
  let c0_i32_1520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1514 : BitVec 32 := 4#32
  let v4280 : BitVec 32 := Scalar.xori v2 c4_i32_1514
  let c1_i32_1519 : BitVec 32 := 1#32
  let v4281 : BitVec 32 := Scalar.muli v4280 c1_i32_1519
  let v4282 : BitVec 32 := Scalar.addi c0_i32_1520 v4281
  v4282.toNat
def k0_dev29 (d0 : Dev nD) : Nat :=
  let c0_i32_1535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1529 : BitVec 32 := 4#32
  let v4294 : BitVec 32 := Scalar.xori v2 c4_i32_1529
  let c1_i32_1534 : BitVec 32 := 1#32
  let v4295 : BitVec 32 := Scalar.muli v4294 c1_i32_1534
  let v4296 : BitVec 32 := Scalar.addi c0_i32_1535 v4295
  v4296.toNat
def k0_dev30 (d0 : Dev nD) : Nat :=
  let c0_i32_1550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1544 : BitVec 32 := 4#32
  let v4308 : BitVec 32 := Scalar.xori v2 c4_i32_1544
  let c1_i32_1549 : BitVec 32 := 1#32
  let v4309 : BitVec 32 := Scalar.muli v4308 c1_i32_1549
  let v4310 : BitVec 32 := Scalar.addi c0_i32_1550 v4309
  v4310.toNat
def k0_dev31 (d0 : Dev nD) : Nat :=
  let c0_i32_1565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1559 : BitVec 32 := 4#32
  let v4322 : BitVec 32 := Scalar.xori v2 c4_i32_1559
  let c1_i32_1564 : BitVec 32 := 1#32
  let v4323 : BitVec 32 := Scalar.muli v4322 c1_i32_1564
  let v4324 : BitVec 32 := Scalar.addi c0_i32_1565 v4323
  v4324.toNat
def k0_dev32 (d0 : Dev nD) : Nat :=
  let c0_i32_1730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1724 : BitVec 32 := 4#32
  let v4689 : BitVec 32 := Scalar.xori v2 c4_i32_1724
  let c1_i32_1729 : BitVec 32 := 1#32
  let v4690 : BitVec 32 := Scalar.muli v4689 c1_i32_1729
  let v4691 : BitVec 32 := Scalar.addi c0_i32_1730 v4690
  v4691.toNat
def k0_dev33 (d0 : Dev nD) : Nat :=
  let c0_i32_1745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1739 : BitVec 32 := 4#32
  let v4703 : BitVec 32 := Scalar.xori v2 c4_i32_1739
  let c1_i32_1744 : BitVec 32 := 1#32
  let v4704 : BitVec 32 := Scalar.muli v4703 c1_i32_1744
  let v4705 : BitVec 32 := Scalar.addi c0_i32_1745 v4704
  v4705.toNat
def k0_dev34 (d0 : Dev nD) : Nat :=
  let c0_i32_1760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1754 : BitVec 32 := 4#32
  let v4717 : BitVec 32 := Scalar.xori v2 c4_i32_1754
  let c1_i32_1759 : BitVec 32 := 1#32
  let v4718 : BitVec 32 := Scalar.muli v4717 c1_i32_1759
  let v4719 : BitVec 32 := Scalar.addi c0_i32_1760 v4718
  v4719.toNat
def k0_dev35 (d0 : Dev nD) : Nat :=
  let c0_i32_1775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1769 : BitVec 32 := 4#32
  let v4731 : BitVec 32 := Scalar.xori v2 c4_i32_1769
  let c1_i32_1774 : BitVec 32 := 1#32
  let v4732 : BitVec 32 := Scalar.muli v4731 c1_i32_1774
  let v4733 : BitVec 32 := Scalar.addi c0_i32_1775 v4732
  v4733.toNat
def k0_dev36 (d0 : Dev nD) : Nat :=
  let c0_i32_1818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1811 : BitVec 32 := 2#32
  let v4770 : BitVec 32 := Scalar.xori v2 c2_i32_1811
  let c1_i32_1817 : BitVec 32 := 1#32
  let v4771 : BitVec 32 := Scalar.muli v4770 c1_i32_1817
  let v4772 : BitVec 32 := Scalar.addi c0_i32_1818 v4771
  v4772.toNat
def k0_dev37 (d0 : Dev nD) : Nat :=
  let c0_i32_1861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1855 : BitVec 32 := 2#32
  let v4809 : BitVec 32 := Scalar.xori v2 c2_i32_1855
  let c1_i32_1860 : BitVec 32 := 1#32
  let v4810 : BitVec 32 := Scalar.muli v4809 c1_i32_1860
  let v4811 : BitVec 32 := Scalar.addi c0_i32_1861 v4810
  v4811.toNat
def k0_dev38 (d0 : Dev nD) : Nat :=
  let c0_i32_1904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1898 : BitVec 32 := 2#32
  let v4848 : BitVec 32 := Scalar.xori v2 c2_i32_1898
  let c1_i32_1903 : BitVec 32 := 1#32
  let v4849 : BitVec 32 := Scalar.muli v4848 c1_i32_1903
  let v4850 : BitVec 32 := Scalar.addi c0_i32_1904 v4849
  v4850.toNat
def k0_dev39 (d0 : Dev nD) : Nat :=
  let c0_i32_1947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1941 : BitVec 32 := 2#32
  let v4887 : BitVec 32 := Scalar.xori v2 c2_i32_1941
  let c1_i32_1946 : BitVec 32 := 1#32
  let v4888 : BitVec 32 := Scalar.muli v4887 c1_i32_1946
  let v4889 : BitVec 32 := Scalar.addi c0_i32_1947 v4888
  v4889.toNat
def k0_dev40 (d0 : Dev nD) : Nat :=
  let c0_i32_1990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1984 : BitVec 32 := 2#32
  let v4926 : BitVec 32 := Scalar.xori v2 c2_i32_1984
  let c1_i32_1989 : BitVec 32 := 1#32
  let v4927 : BitVec 32 := Scalar.muli v4926 c1_i32_1989
  let v4928 : BitVec 32 := Scalar.addi c0_i32_1990 v4927
  v4928.toNat
def k0_dev41 (d0 : Dev nD) : Nat :=
  let c0_i32_2033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2027 : BitVec 32 := 2#32
  let v4965 : BitVec 32 := Scalar.xori v2 c2_i32_2027
  let c1_i32_2032 : BitVec 32 := 1#32
  let v4966 : BitVec 32 := Scalar.muli v4965 c1_i32_2032
  let v4967 : BitVec 32 := Scalar.addi c0_i32_2033 v4966
  v4967.toNat
def k0_dev42 (d0 : Dev nD) : Nat :=
  let c0_i32_2076 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2070 : BitVec 32 := 2#32
  let v5004 : BitVec 32 := Scalar.xori v2 c2_i32_2070
  let c1_i32_2075 : BitVec 32 := 1#32
  let v5005 : BitVec 32 := Scalar.muli v5004 c1_i32_2075
  let v5006 : BitVec 32 := Scalar.addi c0_i32_2076 v5005
  v5006.toNat
def k0_dev43 (d0 : Dev nD) : Nat :=
  let c0_i32_2119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2113 : BitVec 32 := 2#32
  let v5043 : BitVec 32 := Scalar.xori v2 c2_i32_2113
  let c1_i32_2118 : BitVec 32 := 1#32
  let v5044 : BitVec 32 := Scalar.muli v5043 c1_i32_2118
  let v5045 : BitVec 32 := Scalar.addi c0_i32_2119 v5044
  v5045.toNat
def k0_dev44 (d0 : Dev nD) : Nat :=
  let c0_i32_2162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2156 : BitVec 32 := 1#32
  let v5082 : BitVec 32 := Scalar.xori v2 c1_i32_2156
  let c1_i32_2161 : BitVec 32 := 1#32
  let v5083 : BitVec 32 := Scalar.muli v5082 c1_i32_2161
  let v5084 : BitVec 32 := Scalar.addi c0_i32_2162 v5083
  v5084.toNat
def k0_dev45 (d0 : Dev nD) : Nat :=
  let c0_i32_2205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2199 : BitVec 32 := 1#32
  let v5121 : BitVec 32 := Scalar.xori v2 c1_i32_2199
  let c1_i32_2204 : BitVec 32 := 1#32
  let v5122 : BitVec 32 := Scalar.muli v5121 c1_i32_2204
  let v5123 : BitVec 32 := Scalar.addi c0_i32_2205 v5122
  v5123.toNat
def k0_dev46 (d0 : Dev nD) : Nat :=
  let c0_i32_2248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2242 : BitVec 32 := 1#32
  let v5160 : BitVec 32 := Scalar.xori v2 c1_i32_2242
  let c1_i32_2247 : BitVec 32 := 1#32
  let v5161 : BitVec 32 := Scalar.muli v5160 c1_i32_2247
  let v5162 : BitVec 32 := Scalar.addi c0_i32_2248 v5161
  v5162.toNat
def k0_dev47 (d0 : Dev nD) : Nat :=
  let c0_i32_2291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2285 : BitVec 32 := 1#32
  let v5199 : BitVec 32 := Scalar.xori v2 c1_i32_2285
  let c1_i32_2290 : BitVec 32 := 1#32
  let v5200 : BitVec 32 := Scalar.muli v5199 c1_i32_2290
  let v5201 : BitVec 32 := Scalar.addi c0_i32_2291 v5200
  v5201.toNat
def k0_dev48 (d0 : Dev nD) : Nat :=
  let c0_i32_2334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2328 : BitVec 32 := 1#32
  let v5238 : BitVec 32 := Scalar.xori v2 c1_i32_2328
  let c1_i32_2333 : BitVec 32 := 1#32
  let v5239 : BitVec 32 := Scalar.muli v5238 c1_i32_2333
  let v5240 : BitVec 32 := Scalar.addi c0_i32_2334 v5239
  v5240.toNat
def k0_dev49 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2371 : BitVec 32 := 1#32
  let v5277 : BitVec 32 := Scalar.xori v2 c1_i32_2371
  let c1_i32_2376 : BitVec 32 := 1#32
  let v5278 : BitVec 32 := Scalar.muli v5277 c1_i32_2376
  let v5279 : BitVec 32 := Scalar.addi c0_i32_2377 v5278
  v5279.toNat
def k0_dev50 (d0 : Dev nD) : Nat :=
  let c0_i32_2420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2414 : BitVec 32 := 1#32
  let v5316 : BitVec 32 := Scalar.xori v2 c1_i32_2414
  let c1_i32_2419 : BitVec 32 := 1#32
  let v5317 : BitVec 32 := Scalar.muli v5316 c1_i32_2419
  let v5318 : BitVec 32 := Scalar.addi c0_i32_2420 v5317
  v5318.toNat
def k0_dev51 (d0 : Dev nD) : Nat :=
  let c0_i32_2463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2457 : BitVec 32 := 1#32
  let v5355 : BitVec 32 := Scalar.xori v2 c1_i32_2457
  let c1_i32_2462 : BitVec 32 := 1#32
  let v5356 : BitVec 32 := Scalar.muli v5355 c1_i32_2462
  let v5357 : BitVec 32 := Scalar.addi c0_i32_2463 v5356
  v5357.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x256 : Shape := ⟨2, ![8192, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S8192x256, .f32⟩
  | .hbm, ⟨3, _⟩ => ⟨S8192x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Net.lean ====
/- The kernel's body, written again as the loops it comes from: compare-exchange stages, the transfers of one chunk,
   and the rounds over both column halves. `body_eq` says that this is the printed body. -/
module

public import proofs.«01_k».proof.Proof.Gen.KernelIdeal

@[expose] public section

noncomputable section

namespace Cert.Sort

open Idealize.ShloMosaic Idealize.SL.Sem Cert.KernelIdeal Cert.KernelIdeal.Gen

variable {F : FTy → Type} [FloatOps F]

/-! ## One compare-exchange stage -/

/-- Rows of 128 columns. -/
abbrev Rows (m : ℕ) : Shape := ⟨2, ![m, 128]⟩
/-- One block of 1024 rows as `n` groups of two runs of `s` rows. -/
abbrev Pairs (n s : ℕ) : Shape := ⟨4, ![n, 2, s, 128]⟩
/-- One run of each group, its axis kept. -/
abbrev Run1 (n s : ℕ) : Shape := ⟨4, ![n, 1, s, 128]⟩
/-- One run of each group. -/
abbrev Run (n s : ℕ) : Shape := ⟨3, ![n, s, 128]⟩
/-- One number for each group. -/
abbrev Grp (n : ℕ) : Shape := ⟨3, ![n, 1, 1]⟩

/-- The shape conditions of a stage at a short distance `s`. -/
structure LowOK (s : ℕ) : Prop where
  lt : s < 1024
  iota : (Rows 1024).Iotas .tc 32 [0]
  dHi : (Rows 1024).Slices ![s, 0] (Rows (1024 - s))
  dLo : (Rows 1024).Slices ![0, 0] (Rows s)
  dCat : Shape.Concatenates [Rows (1024 - s), Rows s] (Rows 1024) 0
  uHi : (Rows 1024).Slices ![1024 - s, 0] (Rows s)
  uLo : (Rows 1024).Slices ![0, 0] (Rows (1024 - s))
  uCat : Shape.Concatenates [Rows s, Rows (1024 - s)] (Rows 1024) 0

/-- The shape conditions of a stage at a long distance `s`, with `n` groups. -/
structure HighOK (n s : ℕ) : Prop where
  cut : (Rows 1024).ShapeCasts (Pairs n s)
  fst : (Pairs n s).Slices ![0, 0, 0, 0] (Run1 n s)
  snd : (Pairs n s).Slices ![0, 1, 0, 0] (Run1 n s)
  drop : (Run1 n s).ShapeCasts (Run n s)
  iota : (Grp n).Iotas .tc 32 [0]
  same : (Grp n).ShapeCasts (Grp n)
  bcast : (Grp n).Broadcasts (Run n s)
  keep : (Run n s).ShapeCasts (Run1 n s)
  cat : Shape.Concatenates [Run1 n s, Run1 n s] (Pairs n s) 1
  join : (Pairs n s).ShapeCasts (Rows 1024)

/-- For each row: is the bit `s` of the row's number (counted from `off`) clear? -/
def rowBit (h : (Rows 1024).Iotas .tc 32 [0]) (s : ℕ) (off : BitVec 32) : IVec (Rows 1024) 1 :=
  cmpi .eq (andi (addi (iota .tc (Rows 1024) 32 [0] h) (broadcast (Rows 1024) off)) (broadcast (Rows 1024) (BitVec.ofNat 32 s)))
    (broadcast (Rows 1024) 0#32)

/-- For each row: the row `s` further on if the bit `s` of its number is clear, otherwise the row `s` before it. -/
def lowPartner {s : ℕ} (h : LowOK s) (off : BitVec 32) (v : FVec F (Rows 1024) .bf16) : FVec F (Rows 1024) .bf16 :=
  select (rowBit h.iota s off)
    (concatenate (Rows 1024) 0 [⟨Rows (1024 - s), extractStridedSlice (Rows (1024 - s)) ![s, 0] v h.dHi⟩,
      ⟨Rows s, extractStridedSlice (Rows s) ![0, 0] v h.dLo⟩] h.dCat)
    (concatenate (Rows 1024) 0 [⟨Rows s, extractStridedSlice (Rows s) ![1024 - s, 0] v h.uHi⟩,
      ⟨Rows (1024 - s), extractStridedSlice (Rows (1024 - s)) ![0, 0] v h.uLo⟩] h.uCat)

/-- A stage at a short distance: each row with its partner, the smaller or the larger of the two. -/
def lowStep {s : ℕ} (h : LowOK s) (blk : ℕ) (off : BitVec 32) (v : FVec F (Rows 1024) .bf16) : FVec F (Rows 1024) .bf16 :=
  select (xori (xori (rowBit h.iota s off) (rowBit h.iota blk off)) (constantI (Rows 1024) 1 1#1))
    (minimumf v (lowPartner h off v)) (maximumf v (lowPartner h off v))

/-- The first run of each group. -/
def runA {n s : ℕ} (h : HighOK n s) (v : FVec F (Rows 1024) .bf16) : FVec F (Run n s) .bf16 :=
  shapeCast (Run n s) (extractStridedSlice (Run1 n s) ![0, 0, 0, 0] (shapeCast (Pairs n s) v h.cut) h.fst) h.drop

/-- The second run of each group. -/
def runB {n s : ℕ} (h : HighOK n s) (v : FVec F (Rows 1024) .bf16) : FVec F (Run n s) .bf16 :=
  shapeCast (Run n s) (extractStridedSlice (Run1 n s) ![0, 1, 0, 0] (shapeCast (Pairs n s) v h.cut) h.snd) h.drop

/-- For each group: is the bit `blk` of its first row's number clear? -/
def grpBit {n s : ℕ} (h : HighOK n s) (blk : ℕ) (off : BitVec 32) : IVec (Grp n) 1 :=
  cmpi .eq (andi (addi (muli (iota .tc (Grp n) 32 [0] h.iota) (broadcast (Grp n) (BitVec.ofNat 32 (2 * s)))) (broadcast (Grp n) off))
    (broadcast (Grp n) (BitVec.ofNat 32 blk))) (broadcast (Grp n) 0#32)

/-- A group's bit at every element of its run. -/
def grpMask {n s : ℕ} (h : HighOK n s) (blk : ℕ) (off : BitVec 32) : IVec (Run n s) 1 :=
  broadcastTo (Run n s) (shapeCast (Grp n) (grpBit h blk off) h.same) h.bcast

/-- A stage at a long distance: each group's two runs, the smaller elements in one and the larger in the other. -/
def highStep {n s : ℕ} (h : HighOK n s) (blk : ℕ) (off : BitVec 32) (v : FVec F (Rows 1024) .bf16) : FVec F (Rows 1024) .bf16 :=
  shapeCast (Rows 1024)
    (concatenate (Pairs n s) 1
      [⟨Run1 n s, shapeCast (Run1 n s)
          (select (grpMask h blk off) (minimumf (runA h v) (runB h v)) (maximumf (runA h v) (runB h v))) h.keep⟩,
       ⟨Run1 n s, shapeCast (Run1 n s)
          (select (grpMask h blk off) (maximumf (runA h v) (runB h v)) (minimumf (runA h v) (runB h v))) h.keep⟩] h.cat) h.join

theorem low1 : LowOK 1 := by constructor <;> decide
theorem low2 : LowOK 2 := by constructor <;> decide
theorem low4 : LowOK 4 := by constructor <;> decide
theorem low8 : LowOK 8 := by constructor <;> decide
theorem high16 : HighOK 32 16 := by constructor <;> decide
theorem high32 : HighOK 16 32 := by constructor <;> decide
theorem high64 : HighOK 8 64 := by constructor <;> decide
theorem high128 : HighOK 4 128 := by constructor <;> decide
theorem high256 : HighOK 2 256 := by constructor <;> decide
theorem high512 : HighOK 1 512 := by constructor <;> decide

/-- The stage at distance `2 ^ j`, ascending where the bit `2 ^ k` of the row's number is clear. -/
def stage (k : ℕ) (off : BitVec 32) : ℕ → FVec F (Rows 1024) .bf16 → FVec F (Rows 1024) .bf16
  | 0 => lowStep low1 (Nat.pow 2 k) off
  | 1 => lowStep low2 (Nat.pow 2 k) off
  | 2 => lowStep low4 (Nat.pow 2 k) off
  | 3 => lowStep low8 (Nat.pow 2 k) off
  | 4 => highStep high16 (Nat.pow 2 k) off
  | 5 => highStep high32 (Nat.pow 2 k) off
  | 6 => highStep high64 (Nat.pow 2 k) off
  | 7 => highStep high128 (Nat.pow 2 k) off
  | 8 => highStep high256 (Nat.pow 2 k) off
  | 9 => highStep high512 (Nat.pow 2 k) off
  | _ => id

/-- The stages at the distances `2 ^ (n-1), …, 2, 1`. -/
def stages (k : ℕ) (off : BitVec 32) : ℕ → FVec F (Rows 1024) .bf16 → FVec F (Rows 1024) .bf16
  | 0, v => v
  | n + 1, v => stages k off n (stage k off n v)

/-- The local sort: for `k = 1, …, n`, the stages at the distances below `2 ^ k`. -/
def localSort (off : BitVec 32) : ℕ → FVec F (Rows 1024) .bf16 → FVec F (Rows 1024) .bf16
  | 0, v => v
  | n + 1, v => stages (n + 1) off (n + 1) (localSort off n v)

/-! ## Devices, views, cells -/

/-- The device's own number, as the body computes it. -/
def me (d : Dev nD) : BitVec 32 := Scalar.remsi (Scalar.divsi (Dev.word d) 1#32) 8#32
/-- The number of the device's first row. -/
def off (d : Dev nD) : BitVec 32 := Scalar.muli (me d) 1024#32
/-- The number of the neighbour across bit `t`, as the body computes it. -/
def nbrN (t : Fin 3) (d : Dev nD) : ℕ :=
  (Scalar.addi 0#32 (Scalar.muli (Scalar.xori (me d) (BitVec.ofNat 32 (Nat.pow 2 t))) 1#32)).toNat
theorem nbrN_lt (t : Fin 3) (d : Dev nD) : nbrN t d < nD := by revert t d; decide +kernel
/-- The neighbour across bit `t`. -/
def nbr (t : Fin 3) (d : Dev nD) : Dev nD := ⟨nbrN t d, nbrN_lt t d⟩

theorem inbS (g h : ℕ) (hg : g < 2) (hh : h < 4) :
    ∀ a, (![g, h, 0, 0] : Fin 4 → ℕ) a + S1x1x256x128.size a ≤ S2x4x256x128.size a := by
  intro a; fin_cases a <;> simp <;> omega
theorem inbR (n : ℕ) (hn : n < 48) :
    ∀ a, (![n, 0, 0] : Fin 3 → ℕ) a + S1x256x128.size a ≤ S48x256x128.size a := by
  intro a; fin_cases a <;> simp <;> omega
theorem inbC (n : ℕ) (hn : n < 48) : ∀ a, (![n] : Fin 1 → ℕ) a + S1.size a ≤ S48.size a := by
  intro a; fin_cases a; simp; omega

/-- The place of a chunk in the send buffer. -/
abbrev rectS (g : Fin 2) (h : Fin 4) : Rect S2x4x256x128 :=
  Rect.unit (s := S2x4x256x128) ![g.val, h.val, 0, 0] S1x1x256x128.size (inbS g h g.2 h.2)
/-- The place of a slot in the receive buffer. -/
abbrev rectR (n : Fin 48) : Rect S48x256x128 :=
  Rect.unit (s := S48x256x128) ![n.val, 0, 0] S1x256x128.size (inbR n n.2)
/-- The place of a slot's cell among the cells. -/
abbrev rectC (n : Fin 48) : Rect S48 := Rect.unit (s := S48) ![n.val] S1.size (inbC n n.2)

theorem packedS (g : Fin 2) (h : Fin 4) : (rectS g h).PackedRows (EltTy.packing .bf16) := by revert g h; decide +kernel
theorem wordsS (g : Fin 2) (h : Fin 4) : (rectS g h).WholeWords (EltTy.packing .bf16) := (packedS g h).wholeWords
theorem packedR (n : Fin 48) : (rectR n).PackedRows (EltTy.packing .bf16) := by revert n; decide +kernel
theorem wordsR (n : Fin 48) : (rectR n).WholeWords (EltTy.packing .bf16) := (packedR n).wholeWords

/-- The slot of the exchange `e` of half `g` for chunk `h`. -/
def slot (g : Fin 2) (e : Fin 6) (h : Fin 4) : Fin 48 := ⟨(g.val * 6 + e.val) * 4 + h.val, by omega⟩

/-- The bit of the row number that decides the direction of exchange `e`. -/
def planK : Fin 6 → ℕ := ![11, 12, 12, 13, 13, 13]
/-- The neighbour of exchange `e`. -/
def planT : Fin 6 → Fin 3 := ![0, 1, 0, 2, 1, 0]

/-! ## The pieces of the body -/

section Body

variable (arg0 : Memref sig .tc .vmem S1024x256 .bf16) (harg0 : arg0.IsWhole)
  (arg1 : Memref sig .tc .vmem S1024x256 .bf16) (harg1 : arg1.IsWhole)
  (arg2 : Memref sig .tc .vmem S2x4x256x128 .bf16) (harg2 : arg2.IsWhole)
  (arg3 : Memref sig .tc .vmem S48x256x128 .bf16) (harg3 : arg3.IsWhole)
  (arg4 : DmaSems sig S48) (arg5 : DmaSems sig S48)

/-- A chunk's part of the send buffer. -/
def sview (g : Fin 2) (h : Fin 4) : Memref sig .tc .vmem S256x128 .bf16 :=
  (arg2.slice (rectS g h) (fun _ => rfl)).squeeze S256x128 squeezes_S1x1x256x128_S256x128
/-- A slot's part of the receive buffer. -/
def rview (n : Fin 48) : Memref sig .tc .vmem S256x128 .bf16 :=
  (arg3.slice (rectR n) (fun _ => rfl)).squeeze S256x128 squeezes_S1x256x128_S256x128
/-- A slot's cell. -/
def cellAt (c : DmaSems sig S48) (n : Fin 48) : DmaSem sig := ((c.slice (rectC n)).squeeze S_ squeezes_S1_S_).sem

/-- Store a chunk in the send buffer and start its transfer. -/
def startHalf (d : Dev nD) (g : Fin 2) (e : Fin 6) (h : Fin 4) (v : FVec F S256x128 .bf16) :
    Prog (TpuEff nD τ sig (Elt F) Λ₀ .tc) PUnit := do
  let _ ← Prog.lift (.load arg2 (rectS g h).toLoadRect (View.loadsAt_vmem h_S1x1x256x128))
  Prog.lift (.store arg2 (rectS g h) (shapeCast S1x1x256x128 v shapeCasts_S256x128_S1x1x256x128) Finset.univ
    (View.stores_vmem h_S1x1x256x128 (harg2.storeExact_slice rfl _ (packedS g h)) (fun _ => rfl)) (.inl rfl))
  Prog.lift (.enqueueDma (sview arg2 g h)
    (.remote (Dev.tc (nbr (planT e) d)) (rview arg3 (slot g e h)) (.dma (cellAt arg4 (slot g e h)))) (.dma (cellAt arg5 (slot g e h)))
    ((harg2.wordExact_slice rfl _ (wordsS g h)).reshape _ _) ((harg3.wordExact_slice rfl _ (wordsR (slot g e h))).reshape _ _)
    ⟨⟨rfl, Or.inl rfl⟩, trivial⟩)

/-- Does the device keep the smaller elements in exchange `e`? -/
def keepMin (e : Fin 6) (o : BitVec 32) : BitVec 1 :=
  Scalar.xori (Scalar.xori (Scalar.cmpi .eq (Scalar.andi o (BitVec.ofNat 32 (Nat.mul 1024 (Nat.pow 2 (planT e))))) 0#32)
    (Scalar.cmpi .eq (Scalar.andi o (BitVec.ofNat 32 (Nat.pow 2 (planK e)))) 0#32)) 1#1

/-- The chunk after exchange `e`, from the device's own and its neighbour's. -/
def combine (e : Fin 6) (o : BitVec 32) (v w : FVec F S256x128 .bf16) : FVec F S256x128 .bf16 :=
  Scalar.select (keepMin e o) (minimumf v w) (maximumf v w)

/-- Wait for a chunk's transfer, both ways, and combine. -/
def finishHalf (d : Dev nD) (g : Fin 2) (e : Fin 6) (h : Fin 4) (v : FVec F S256x128 .bf16) :
    Prog (TpuEff nD τ sig (Elt F) Λ₀ .tc) (FVec F S256x128 .bf16) := do
  Prog.lift (.waitDma2 (cellAt arg4 (slot g e h)) (rview arg3 (slot g e h)) (sview arg2 g h)
    ((harg3.wordExact_slice rfl _ (wordsR (slot g e h))).reshape _ _) ((harg2.wordExact_slice rfl _ (wordsS g h)).reshape _ _))
  Prog.lift (.waitDma2 (cellAt arg5 (slot g e h)) (sview arg2 g h) (rview arg3 (slot g e h))
    ((harg2.wordExact_slice rfl _ (wordsS g h)).reshape _ _) ((harg3.wordExact_slice rfl _ (wordsR (slot g e h))).reshape _ _))
  let w : Vec F S1x256x128 .bf16 ← Prog.lift (.load arg3 (rectR (slot g e h)).toLoadRect (View.loadsAt_vmem h_S1x256x128))
  pure (combine e (off d) v (shapeCast S256x128 w shapeCasts_S1x256x128_S256x128))

theorem chunk_ok (h : Fin 4) : (Rows 1024).Slices ![256 * h.val, 0] (Rows 256) := by revert h; decide

/-- Chunk `h` of a block. -/
def chunk (v : FVec F (Rows 1024) .bf16) (h : Fin 4) : FVec F S256x128 .bf16 :=
  extractStridedSlice (Rows 256) ![256 * h.val, 0] v (chunk_ok h)

/-- The block of four chunks. -/
def join (C : Fin 4 → FVec F S256x128 .bf16) : FVec F (Rows 1024) .bf16 :=
  concatenate (Rows 1024) 0 [⟨S256x128, C 0⟩, ⟨S256x128, C 1⟩, ⟨S256x128, C 2⟩, ⟨S256x128, C 3⟩]
    concatenates_S256x128_S256x128_S256x128_S256x128_S1024x128_d0

/-- Start the four transfers of an exchange. -/
def startAll (d : Dev nD) (g : Fin 2) (e : Fin 6) (C : Fin 4 → FVec F S256x128 .bf16) :
    Prog (TpuEff nD τ sig (Elt F) Λ₀ .tc) PUnit := do
  startHalf arg2 harg2 arg3 harg3 arg4 arg5 d g e 0 (C 0)
  startHalf arg2 harg2 arg3 harg3 arg4 arg5 d g e 1 (C 1)
  startHalf arg2 harg2 arg3 harg3 arg4 arg5 d g e 2 (C 2)
  startHalf arg2 harg2 arg3 harg3 arg4 arg5 d g e 3 (C 3)

/-- Finish the four transfers of an exchange. -/
def finishAll (d : Dev nD) (g : Fin 2) (e : Fin 6) (C : Fin 4 → FVec F S256x128 .bf16) :
    Prog (TpuEff nD τ sig (Elt F) Λ₀ .tc) (Fin 4 → FVec F S256x128 .bf16) := do
  let a ← finishHalf arg2 harg2 arg3 harg3 arg4 arg5 d g e 0 (C 0)
  let b ← finishHalf arg2 harg2 arg3 harg3 arg4 arg5 d g e 1 (C 1)
  let c ← finishHalf arg2 harg2 arg3 harg3 arg4 arg5 d g e 2 (C 2)
  let x ← finishHalf arg2 harg2 arg3 harg3 arg4 arg5 d g e 3 (C 3)
  pure ![a, b, c, x]

/-- Finish each of an exchange's transfers and start the next exchange's for that chunk. -/
def passAll (d : Dev nD) (g : Fin 2) (e e' : Fin 6) (C : Fin 4 → FVec F S256x128 .bf16) :
    Prog (TpuEff nD τ sig (Elt F) Λ₀ .tc) (Fin 4 → FVec F S256x128 .bf16) := do
  let a ← finishHalf arg2 harg2 arg3 harg3 arg4 arg5 d g e 0 (C 0)
  startHalf arg2 harg2 arg3 harg3 arg4 arg5 d g e' 0 a
  let b ← finishHalf arg2 harg2 arg3 harg3 arg4 arg5 d g e 1 (C 1)
  startHalf arg2 harg2 arg3 harg3 arg4 arg5 d g e' 1 b
  let c ← finishHalf arg2 harg2 arg3 harg3 arg4 arg5 d g e 2 (C 2)
  startHalf arg2 harg2 arg3 harg3 arg4 arg5 d g e' 2 c
  let x ← finishHalf arg2 harg2 arg3 harg3 arg4 arg5 d g e 3 (C 3)
  startHalf arg2 harg2 arg3 harg3 arg4 arg5 d g e' 3 x
  pure ![a, b, c, x]

/-- Finish an exchange, run the stages of the phase `k` within the block, start the next exchange. -/
def tailAll (d : Dev nD) (g : Fin 2) (e e' : Fin 6) (k : ℕ) (C : Fin 4 → FVec F S256x128 .bf16) :
    Prog (TpuEff nD τ sig (Elt F) Λ₀ .tc) (Fin 4 → FVec F S256x128 .bf16) := do
  let D ← finishAll arg2 harg2 arg3 harg3 arg4 arg5 d g e C
  startAll arg2 harg2 arg3 harg3 arg4 arg5 d g e' (chunk (stages k (off d) 10 (join D)))
  pure (chunk (stages k (off d) 10 (join D)))

theorem inbX (g : Fin 2) : ∀ a, (![0, 128 * g.val] : Fin 2 → ℕ) a + S1024x128.size a ≤ S1024x256.size a := by
  intro a; fin_cases a <;> simp; omega

/-- A column half of a block. -/
abbrev rectX (g : Fin 2) : Rect S1024x256 := Rect.unit (s := S1024x256) ![0, 128 * g.val] S1024x128.size (inbX g)

theorem packedX (g : Fin 2) : (rectX g).PackedRows (EltTy.packing .bf16) := by revert g; decide +kernel

/-- Read a column half of the device's block, sort it within the block, start the first exchange. -/
def openHalf (d : Dev nD) (g : Fin 2) : Prog (TpuEff nD τ sig (Elt F) Λ₀ .tc) (Fin 4 → FVec F S256x128 .bf16) := do
  let x : Vec F S1024x128 .bf16 ← Prog.lift (.load arg0 (rectX g).toLoadRect (View.loadsAt_vmem h_S1024x128))
  startAll arg2 harg2 arg3 harg3 arg4 arg5 d g 0 (chunk (localSort (off d) 10 (shapeCast S1024x128 x shapeCasts_S1024x128_S1024x128)))
  pure (chunk (localSort (off d) 10 (shapeCast S1024x128 x shapeCasts_S1024x128_S1024x128)))

/-- Finish the last exchange, run the last stages, write the column half of the result. -/
def closeHalf (d : Dev nD) (g : Fin 2) (C : Fin 4 → FVec F S256x128 .bf16) : Prog (TpuEff nD τ sig (Elt F) Λ₀ .tc) PUnit := do
  let D ← finishAll arg2 harg2 arg3 harg3 arg4 arg5 d g 5 C
  let _ ← Prog.lift (.load arg1 (rectX g).toLoadRect (View.loadsAt_vmem h_S1024x128))
  Prog.lift (.store arg1 (rectX g) (stages 13 (off d) 10 (join D)) Finset.univ
    (View.stores_vmem h_S1024x128 (harg1.storeExact_slice rfl _ (packedX g)) (fun _ => rfl)) (.inl rfl))

/-- The barrier's cell. -/
abbrev barrier : Sem sig := (SemArray.scalar (sig.barrier 0 rfl) : Sems sig S_).sem

/-- The whole body. -/
def bodyProg : Prog (TpuEff nD τ sig (Elt F) Λ₀ .tc) PUnit := do
  let d : Dev nD ← Prog.lift .deviceId
  semSignalWord (nbr 0 d) barrier 1#32
  semSignalWord (nbr 1 d) barrier 1#32
  semSignalWord (nbr 2 d) barrier 1#32
  semWaitWord barrier 3#32
  let A ← openHalf arg0 arg2 harg2 arg3 harg3 arg4 arg5 d 0
  let B ← openHalf arg0 arg2 harg2 arg3 harg3 arg4 arg5 d 1
  let A ← tailAll arg2 harg2 arg3 harg3 arg4 arg5 d 0 0 1 11 A
  let B ← tailAll arg2 harg2 arg3 harg3 arg4 arg5 d 1 0 1 11 B
  let A ← passAll arg2 harg2 arg3 harg3 arg4 arg5 d 0 1 2 A
  let B ← passAll arg2 harg2 arg3 harg3 arg4 arg5 d 1 1 2 B
  let A ← tailAll arg2 harg2 arg3 harg3 arg4 arg5 d 0 2 3 12 A
  let B ← tailAll arg2 harg2 arg3 harg3 arg4 arg5 d 1 2 3 12 B
  let A ← passAll arg2 harg2 arg3 harg3 arg4 arg5 d 0 3 4 A
  let B ← passAll arg2 harg2 arg3 harg3 arg4 arg5 d 1 3 4 B
  let A ← passAll arg2 harg2 arg3 harg3 arg4 arg5 d 0 4 5 A
  let B ← passAll arg2 harg2 arg3 harg3 arg4 arg5 d 1 4 5 B
  closeHalf arg1 harg1 arg2 harg2 arg3 harg3 arg4 arg5 d 0 A
  closeHalf arg1 harg1 arg2 harg2 arg3 harg3 arg4 arg5 d 1 B

end Body

end Cert.Sort
-- ==== Proof.Protocol.lean ====
/- The exchanges' protocol: the cells by position, what each round of a cell hands over, what a device owes, the levels.
   A position counts the 48 transfers of a device in the order in which the body starts them, which is also the order in
   which it finishes them. -/
module

public import proofs.«01_k».proof.Proof.Net
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Sort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Positions and cells -/

/-- The exchange of a position, -/
def pe (p : Fin 48) : Fin 6 := ⟨p.val / 8, by omega⟩
/-- its column half, -/
def pg (p : Fin 48) : Fin 2 := ⟨p.val / 4 % 2, by omega⟩
/-- its chunk, -/
def ph (p : Fin 48) : Fin 4 := ⟨p.val % 4, by omega⟩
/-- its place in the send buffer: half and chunk, -/
abbrev pq (p : Fin 48) : Fin 2 × Fin 4 := (pg p, ph p)
/-- the bit across which it exchanges, -/
abbrev pt (p : Fin 48) : Fin 3 := planT (pe p)
/-- and its slot. -/
abbrev pslot (p : Fin 48) : Fin 48 := slot (pg p) (pe p) (ph p)
/-- The position of a slot. -/
def posOf (n : ℕ) : Fin 48 := ⟨(n / 4 % 6 * 2 + n / 24 % 2) * 4 + n % 4, by omega⟩
theorem posOf_pslot (p : Fin 48) : posOf (pslot p).val = p := by revert p; decide +kernel
theorem nbr_nbr (t : Fin 3) (d : Dev nD) : nbr t (nbr t d) = d := by revert t d; decide +kernel
/-- The neighbour of a position. -/
abbrev other (p : Fin 48) (d : Dev nD) : Dev nD := nbr (pt p) d

abbrev sM : Memref sig .tc .vmem S2x4x256x128 .bf16 := Memref.whole cc0_scratch0
abbrev rM : Memref sig .tc .vmem S48x256x128 .bf16 := Memref.whole cc0_scratch1
abbrev xM : Memref sig .tc .vmem S1024x256 .bf16 := Memref.whole cc0_stg0_0
abbrev oM : Memref sig .tc .vmem S1024x256 .bf16 := Memref.whole cc0_stg1_0

/-- The names of a device's cells: the barrier's, the sending and the receiving cell of each position. -/
abbrev Cell : Type := Option (Bool × Fin 48)

theorem sendVal (n : Fin 48) : (cellAt cc0_scratch2 n).val = 2 + n.val := by revert n; decide +kernel
theorem recvVal (n : Fin 48) : (cellAt cc0_scratch3 n).val = 50 + n.val := by revert n; decide +kernel

/-- The semaphore of a cell. -/
abbrev csem : Cell → SemLoc sig
  | none => .reg barrier
  | some (false, p) => .dma (cellAt cc0_scratch2 (pslot p))
  | some (true, p) => .dma (cellAt cc0_scratch3 (pslot p))

/-- The cell of a semaphore. -/
def cellOfSem : SemLoc sig → Option Cell
  | .reg s => if s = barrier then some none else none
  | .dma q => if q.val < 2 then none else if q.val < 50 then some (some (false, posOf (q.val - 2))) else some (some (true, posOf (q.val - 50)))

theorem cellOfSem_csem (k : Cell) : cellOfSem (csem k) = some k := by
  match k with
  | none => rfl
  | some (false, p) =>
    simp only [csem, cellOfSem, sendVal]
    rw [if_neg (by omega), if_pos (by omega), Nat.add_sub_cancel_left, posOf_pslot]
  | some (true, p) =>
    simp only [csem, cellOfSem, recvVal]
    rw [if_neg (by omega), if_neg (by omega), Nat.add_sub_cancel_left, posOf_pslot]

theorem csem_injective : Function.Injective csem := fun a b h => by
  have := congrArg cellOfSem h
  rw [cellOfSem_csem, cellOfSem_csem] at this
  exact Option.some.inj this

/-- A device's cell. -/
abbrev kcell (ck : Dev nD × Cell) : GSem nD τ sig := ((ck.1 : Thread nD τ), csem ck.2)
abbrev barCell (c : Dev nD) : GSem nD τ sig := ((c : Thread nD τ), .reg barrier)
abbrev sendCell (c : Dev nD) (p : Fin 48) : GSem nD τ sig := ((c : Thread nD τ), .dma (cellAt cc0_scratch2 (pslot p)))
abbrev recvCell (c : Dev nD) (p : Fin 48) : GSem nD τ sig := ((c : Thread nD τ), .dma (cellAt cc0_scratch3 (pslot p)))

theorem kcell_injective : Function.Injective (kcell : Dev nD × Cell → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-! ## What is exchanged -/

/-- A column half of the device's block. -/
def half (x : Vec F S1024x256 .bf16) (g : Fin 2) : FVec F (Rows 1024) .bf16 :=
  shapeCast S1024x128 (xM.view.readAt (Elt F) (rectX g).toLoadRect x) shapeCasts_S1024x128_S1024x128

/-- The chunks of all devices after an exchange. -/
def got (e : Fin 6) (S : Dev nD → Fin 4 → FVec F S256x128 .bf16) (d : Dev nD) (h : Fin 4) : FVec F S256x128 .bf16 :=
  combine e (off d) (S d h) (S (nbr (planT e) d) h)

/-- The blocks after the stages of phase `k`, in chunks. -/
def turn (k : ℕ) (S : Dev nD → Fin 4 → FVec F S256x128 .bf16) (d : Dev nD) : Fin 4 → FVec F S256x128 .bf16 :=
  chunk (stages k (off d) 10 (join (S d)))

variable (x : Dev nD → Vec F S1024x256 .bf16)

/-- The chunks the devices send in each exchange of a half. -/
def sent0 (g : Fin 2) (d : Dev nD) : Fin 4 → FVec F S256x128 .bf16 := chunk (localSort (off d) 10 (half (x d) g))
def sent1 (g : Fin 2) : Dev nD → Fin 4 → FVec F S256x128 .bf16 := turn 11 (got 0 (sent0 x g))
def sent2 (g : Fin 2) : Dev nD → Fin 4 → FVec F S256x128 .bf16 := got 1 (sent1 x g)
def sent3 (g : Fin 2) : Dev nD → Fin 4 → FVec F S256x128 .bf16 := turn 12 (got 2 (sent2 x g))
def sent4 (g : Fin 2) : Dev nD → Fin 4 → FVec F S256x128 .bf16 := got 3 (sent3 x g)
def sent5 (g : Fin 2) : Dev nD → Fin 4 → FVec F S256x128 .bf16 := got 4 (sent4 x g)
def sent : Fin 6 → Fin 2 → Dev nD → Fin 4 → FVec F S256x128 .bf16
  | 0 => sent0 x | 1 => sent1 x | 2 => sent2 x | 3 => sent3 x | 4 => sent4 x | 5 => sent5 x
/-- A column half of the device's result. -/
def result (g : Fin 2) (d : Dev nD) : FVec F (Rows 1024) .bf16 := stages 13 (off d) 10 (join (got 5 (sent5 x g) d))

/-! ## The schedule -/

abbrev sV (q : Fin 2 × Fin 4) : Memref sig .tc .vmem S256x128 .bf16 := sview sM q.1 q.2
abbrev rV (p : Fin 48) : Memref sig .tc .vmem S256x128 .bf16 := rview rM (pslot p)

/-- A place of the device's send buffer, holding `f`. -/
def sPts (c : Dev nD) (q : Fin 2 × Fin 4) (f : Buf (Elt F) (sM.view.loc (c : Thread nD τ))) : sProp 𝕄 :=
  sM.view.loc (c : Thread nD τ) ↦[(sM.access (rectS q.1 q.2)).set]{fullShare} f
/-- A slot of the device's receive buffer, holding `f`. -/
def rPts (c : Dev nD) (p : Fin 48) (f : Buf (Elt F) (rM.view.loc (c : Thread nD τ))) : sProp 𝕄 :=
  rM.view.loc (c : Thread nD τ) ↦[(rM.access (rectR (pslot p))).set]{fullShare} f

theorem set_sview (g : Fin 2) (h : Fin 4) : (sview sM g h).view.set = (sM.access (rectS g h)).set := View.set_reshape _ _
theorem set_rview (n : Fin 48) : (rview rM n).view.set = (rM.access (rectR n)).set := View.set_reshape _ _

theorem sPts_eq (c : Dev nD) (q : Fin 2 × Fin 4) (f : Buf (Elt F) (sM.view.loc (c : Thread nD τ))) :
    sPts c q f = ((sV q).view.loc (c : Thread nD τ) ↦[(sV q).view.set]{fullShare} f : sProp 𝕄) := by
  rw [set_sview]; rfl
theorem sPts_eq' (c : Dev nD) (g : Fin 2) (h : Fin 4) (f : Buf (Elt F) (sM.view.loc (c : Thread nD τ))) :
    (sM.view.loc (c : Thread nD τ) ↦[(sM.access (rectS g h)).set]{fullShare} f : sProp 𝕄)
      = ((sview sM g h).view.loc (c : Thread nD τ) ↦[(sview sM g h).view.set]{fullShare} f : sProp 𝕄) := sPts_eq c (g, h) f
theorem rPts_eq (c : Dev nD) (p : Fin 48) (f : Buf (Elt F) (rM.view.loc (c : Thread nD τ))) :
    rPts c p f = ((rV p).view.loc (c : Thread nD τ) ↦[(rV p).view.set]{fullShare} f : sProp 𝕄) := by
  rw [set_rview]; rfl

instance sPts_storable (c : Dev nD) (q : Fin 2 × Fin 4) (f) : BI.Storable (upEmb : UEmb _ 𝕄) (sPts (F := F) c q f) := by unfold sPts; infer_instance
instance rPts_storable (c : Dev nD) (p : Fin 48) (f) : BI.Storable (upEmb : UEmb _ 𝕄) (rPts (F := F) c p f) := by unfold rPts; infer_instance

/-- A place of the device's send buffer, at any contents. -/
def sAny (c : Dev nD) (q : Fin 2 × Fin 4) : sProp 𝕄 := iprop(∃ f, sPts (F := F) c q f)
/-- A slot of the device's receive buffer, at any contents. -/
def rAny (c : Dev nD) (p : Fin 48) : sProp 𝕄 := iprop(∃ f, rPts (F := F) c p f)

instance sAny_storable (c : Dev nD) (q : Fin 2 × Fin 4) : BI.Storable (upEmb : UEmb _ 𝕄) (sAny (F := F) c q) := by unfold sAny; infer_instance
instance rAny_storable (c : Dev nD) (p : Fin 48) : BI.Storable (upEmb : UEmb _ 𝕄) (rAny (F := F) c p) := by unfold rAny; infer_instance

/-- What the neighbour across bit `t` hands over with its barrier signal: its slots for the exchanges across that bit. -/
def barPay (c : Dev nD) (t : Fin 3) : sProp 𝕄 := bigSep (Finset.univ.filter fun p => pt p = t) fun p => rAny (F := F) (nbr t c) p
/-- What a transfer hands the receiver: the slot holding what its neighbour sent. -/
def recvPay (c : Dev nD) (p : Fin 48) : sProp 𝕄 :=
  iprop(∃ f : Buf (Elt F) (rM.view.loc (c : Thread nD τ)), ⌜(rV p).view.read (Elt F) f = sent x (pe p) (pg p) (other p c) (ph p)⌝ ∗ rPts c p f)

instance barPay_storable (c : Dev nD) (t : Fin 3) : BI.Storable (upEmb : UEmb _ 𝕄) (barPay (F := F) c t) := by unfold barPay; infer_instance
instance recvPay_storable (c : Dev nD) (p : Fin 48) : BI.Storable (upEmb : UEmb _ 𝕄) (recvPay x c p) := by unfold recvPay; infer_instance

/-- The credit of one transfer. -/
abbrev N : ℕ := (rV 0).view.dmaCredit
theorem N_pos : 0 < N := View.dmaCredit_pos _ (by decide)
theorem N_recv (p : Fin 48) : (rV p).view.dmaCredit = N := rfl
theorem N_send (q : Fin 2 × Fin 4) : (sV q).view.dmaCredit = N := rfl

/-- One round, round 0: a barrier cell has a duty of one unit for each neighbour, a transfer's cell one duty. -/
def sched : Rounds.Schedule (GSem nD τ sig) (Fin 3) 𝕄 where
  duties g r := if r = 0 ∧ g.1.2 = .tc then (match cellOfSem g.2 with | none => ∅ | some none => Finset.univ | some (some _) => {0}) else ∅
  unitless _ := False
  amount g _ _ := if cellOfSem g.2 = some none then 1 else N
  payload g _ d := match cellOfSem g.2 with
    | some none => barPay (F := F) g.1.1 d
    | some (some (false, p)) => sAny (F := F) g.1.1 (pq p)
    | some (some (true, p)) => recvPay x g.1.1 p
    | none => iprop(emp)
  amount_pos g _ _ _ := by
    split
    · exact Nat.one_pos
    · exact N_pos

instance sched_payload_storable (g : GSem nD τ sig) (r : ℕ) (d : Fin 3) : BI.Storable (upEmb : UEmb _ 𝕄) ((sched x).payload g r d) := by
  show BI.Storable upEmb (match cellOfSem g.2 with
    | some none => barPay (F := F) g.1.1 d
    | some (some (false, p)) => sAny (F := F) g.1.1 (pq p)
    | some (some (true, p)) => recvPay x g.1.1 p
    | none => iprop(emp))
  split <;> infer_instance

section Sched
variable (c : Dev nD) (p : Fin 48)

theorem cell_bar : cellOfSem (barCell c).2 = some none := cellOfSem_csem none
theorem cell_send : cellOfSem (sendCell c p).2 = some (some (false, p)) := cellOfSem_csem (some (false, p))
theorem cell_recv : cellOfSem (recvCell c p).2 = some (some (true, p)) := cellOfSem_csem (some (true, p))

theorem duties_bar : (sched x).duties (barCell c) 0 = Finset.univ := by
  dsimp only [sched]; rw [if_pos ⟨rfl, rfl⟩, cell_bar c]
theorem duties_send : (sched x).duties (sendCell c p) 0 = {0} := by
  dsimp only [sched]; rw [if_pos ⟨rfl, rfl⟩, cell_send c p]
theorem duties_recv : (sched x).duties (recvCell c p) 0 = {0} := by
  dsimp only [sched]; rw [if_pos ⟨rfl, rfl⟩, cell_recv c p]
theorem duties_later (g : GSem nD τ sig) : ∀ r, 1 ≤ r → (sched x).duties g r = ∅ :=
  fun r hr => by dsimp only [sched]; rw [if_neg fun h => by omega]
theorem amount_bar (d : Fin 3) : (sched x).amount (barCell c) 0 d = 1 := by
  dsimp only [sched]; rw [cell_bar c]; exact if_pos rfl
theorem amount_send (d : Fin 3) : (sched x).amount (sendCell c p) 0 d = N := by
  dsimp only [sched]; rw [cell_send c p]; exact if_neg (by simp)
theorem amount_recv (d : Fin 3) : (sched x).amount (recvCell c p) 0 d = N := by
  dsimp only [sched]; rw [cell_recv c p]; exact if_neg (by simp)
theorem expect_bar : (sched x).expect (barCell c) 0 = 3 := by
  unfold Schedule.expect Schedule.amountOf
  rw [duties_bar, Finset.sum_congr rfl fun d _ => amount_bar x c d]; rfl
theorem expect_send : (sched x).expect (sendCell c p) 0 = N := by
  unfold Schedule.expect Schedule.amountOf; rw [duties_send, Finset.sum_singleton, amount_send]
theorem expect_recv : (sched x).expect (recvCell c p) 0 = N := by
  unfold Schedule.expect Schedule.amountOf; rw [duties_recv, Finset.sum_singleton, amount_recv]
theorem payload_bar (d : Fin 3) : (sched x).payload (barCell c) 0 d = barPay (F := F) c d := by
  dsimp only [sched]; rw [cell_bar c]
theorem payload_send (d : Fin 3) : (sched x).payload (sendCell c p) 0 d = sAny (F := F) c (pq p) := by
  dsimp only [sched]; rw [cell_send c p]
theorem payload_recv (d : Fin 3) : (sched x).payload (recvCell c p) 0 d = recvPay x c p := by
  dsimp only [sched]; rw [cell_recv c p]
theorem rest_bar : bigSep ((sched x).duties (barCell c) 0 \ ∅) (fun d => (sched x).payload (barCell c) 0 d)
    = bigSep Finset.univ fun t => barPay (F := F) c t := by
  rw [Finset.sdiff_empty, duties_bar]; exact bigSep_congr fun d _ => payload_bar x c d
theorem rest_send : bigSep ((sched x).duties (sendCell c p) 0 \ ∅) (fun d => (sched x).payload (sendCell c p) 0 d) = sAny (F := F) c (pq p) := by
  rw [Finset.sdiff_empty, duties_send, bigSep_singleton, payload_send]
theorem rest_recv : bigSep ((sched x).duties (recvCell c p) 0 \ ∅) (fun d => (sched x).payload (recvCell c p) 0 d) = recvPay x c p := by
  rw [Finset.sdiff_empty, duties_recv, bigSep_singleton, payload_recv]

end Sched

/-! ## What is owed, and the levels -/

/-- What device `c` owes before it starts position `i`: the credit of every transfer from there on. -/
def owedFrom (c : Dev nD) (i : ℕ) : CellTallies nD τ sig Unit :=
  ∑ p : Fin 48, if i ≤ p.val then tallyAt (recvCell (other p c) p) () N else 0

theorem owedFrom_step (c : Dev nD) (p : Fin 48) : owedFrom c p.val = owedFrom c (p.val + 1) + tallyAt (recvCell (other p c) p) () N := by
  unfold owedFrom
  rw [← Finset.sum_erase_add _ _ (Finset.mem_univ p), ← Finset.sum_erase_add (a := p) (s := Finset.univ) (f := fun q : Fin 48 => if p.val + 1 ≤ q.val then _ else _) (Finset.mem_univ p)]
  rw [if_pos le_rfl, if_neg (by omega), add_zero]
  congr 1
  refine Finset.sum_congr rfl fun q hq => ?_
  have hne : q.val ≠ p.val := fun h => Finset.ne_of_mem_erase hq (Fin.ext h)
  exact if_congr (by omega) rfl rfl

theorem owedFrom_end (c : Dev nD) : owedFrom c 48 = 0 := by
  unfold owedFrom
  exact Finset.sum_eq_zero fun p _ => if_neg (by omega)

/-- What a device owes before it signals the neighbours across the bits `t, …, 2`. -/
def O₂ (c : Dev nD) : CellTallies nD τ sig Unit := owedFrom c 0 + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

def L (g : GSem nD τ sig) : Finset Unit := if g.1.2 = .tc then {()} else ∅
/-- A barrier cell at 1, the receiving cell of position `p` at `2 + p`, everything else at 0. -/
def lv (g : GSem nD τ sig) (_ : Unit) : ℕ := match cellOfSem g.2 with
  | some none => 1
  | some (some (true, p)) => 2 + p.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [cell_bar c]
theorem lv_send (c : Dev nD) (p : Fin 48) (u : Unit) : lv (sendCell c p) u = 0 := by unfold lv; rw [cell_send c p]
theorem lv_recv (c : Dev nD) (p : Fin 48) (u : Unit) : lv (recvCell c p) u = 2 + p.val := by unfold lv; rw [cell_recv c p]

theorem owedFrom_apply (c : Dev nD) (i : ℕ) (g : GSem nD τ sig) (u : Unit) :
    owedFrom c i g u = ∑ p : Fin 48, if i ≤ p.val then tallyAt (recvCell (other p c) p) () N g u else 0 := by
  unfold owedFrom
  rw [Finset.sum_apply, Finsupp.finset_sum_apply]
  exact Finset.sum_congr rfl fun p _ => by split <;> rfl

theorem owedFrom_pos {c : Dev nD} {i : ℕ} {g : GSem nD τ sig} {u : Unit} (h : 0 < owedFrom c i g u) :
    ∃ p : Fin 48, i ≤ p.val ∧ g = recvCell (other p c) p := by
  rw [owedFrom_apply] at h
  obtain ⟨p, -, hp⟩ := Finset.exists_ne_zero_of_sum_ne_zero h.ne'
  by_cases hi : i ≤ p.val
  · rw [if_pos hi, tallyAt_apply] at hp
    refine ⟨p, hi, ?_⟩
    by_contra hg
    exact hp (if_neg fun h => hg h.1)
  · rw [if_neg hi] at hp; exact absurd rfl hp

theorem O₀_pos {c : Dev nD} {g : GSem nD τ sig} {u : Unit} (h : 0 < O₀ c g u) :
    (∃ p : Fin 48, g = recvCell (other p c) p) ∨ ∃ t, g = barCell (nbr t c) := by
  unfold O₀ O₁ O₂ at h
  rw [Pi.add_apply, Finsupp.add_apply, Pi.add_apply, Finsupp.add_apply, Pi.add_apply, Finsupp.add_apply, tallyAt_apply, tallyAt_apply, tallyAt_apply] at h
  by_cases h0 : 0 < owedFrom c 0 g u
  · obtain ⟨p, -, hp⟩ := owedFrom_pos h0
    exact Or.inl ⟨p, hp⟩
  · right
    by_contra hn
    have hn' := not_exists.mp hn
    rw [if_neg (fun h' => hn' 2 h'.1), if_neg (fun h' => hn' 1 h'.1), if_neg (fun h' => hn' 0 h'.1)] at h
    omega

/-- Owing the transfers from position `i` on, a device may wait at a cell whose level is below them. -/
theorem mayWait_from (c : Dev nD) (sm : SemLoc sig) (i b : ℕ) (hb : b < 2 + i) (hl : ∀ u, lv ((c : Thread nD τ), sm) u ≤ b) :
    (levAts L lv : sProp 𝕄) ⊢ MayWait (c : Thread nD τ) sm () (owedFrom c i) :=
  MayOwe.of_cut (L := L) (lev := lv) b (fun p hp => by rw [Finset.mem_singleton.mp hp, L_tc]; exact Finset.mem_singleton_self _)
    (fun g u hg => by obtain ⟨p, -, rfl⟩ := owedFrom_pos hg; exact Finset.mem_singleton_self _)
    (fun p hp => by rw [Finset.mem_singleton.mp hp]; exact hl _)
    (fun g u hg => by obtain ⟨p, hp, rfl⟩ := owedFrom_pos hg; rw [lv_recv]; omega)

/-- The staging buffers' waits: owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨t, rfl⟩ <;> exact Finset.mem_singleton_self _)
      (fun p hp => by rw [Finset.mem_singleton.mp hp]; dsimp only [lv, cellOfSem]; rw [if_pos hq])
      (fun g u hg => by
        rcases O₀_pos hg with ⟨p, rfl⟩ | ⟨t, rfl⟩
        · rw [lv_recv]; omega
        · rw [lv_bar]; omega)
  · rw [MayWait_zero]; iintro -; iempintro

end Cert.Sort

end
-- ==== Proof.State.lean ====
/- One transfer's start and one transfer's finish, at any position: how each changes what the device holds. -/
module

public import proofs.«01_k».proof.Proof.Protocol

@[expose] public section

noncomputable section

namespace Cert.Sort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (x : Dev nD → Vec F S1024x256 .bf16) (K : Dev nD × Cell → ℕ)

/-- What a device runs. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What a device holds between two transfers -/

/-- What every device knows: the invariant of every cell, that each is at round 0, and the levels. -/
def records : sProp 𝕄 :=
  iprop((bigSep Finset.univ fun ck : Dev nD × Cell => cellInv ER (sched x) (K ck) (kcell ck))
    ∗ (bigSep Finset.univ fun ck : Dev nD × Cell => reached ER (kcell ck) 0) ∗ levAts L lv)

instance records_persistent : BI.Persistent (records x K) := by unfold records; infer_instance

theorem records_inv (ck : Dev nD × Cell) : records x K ⊢ cellInv ER (sched x) (K ck) (kcell ck) := by
  unfold records
  have h : (bigSep Finset.univ fun ck : Dev nD × Cell => (cellInv ER (sched x) (K ck) (kcell ck) : sProp 𝕄)) ⊢ cellInv ER (sched x) (K ck) (kcell ck) :=
    bigSep_elim (Finset.mem_univ ck)
  iintro ⟨#HI, -⟩
  iapply h; iexact HI

theorem records_reached (ck : Dev nD × Cell) : records x K ⊢ reached ER (kcell ck) 0 := by
  unfold records
  have h : (bigSep Finset.univ fun ck : Dev nD × Cell => (reached ER (kcell ck) 0 : sProp 𝕄)) ⊢ reached ER (kcell ck) 0 := bigSep_elim (Finset.mem_univ ck)
  iintro ⟨-, #HR, -⟩
  iapply h; iexact HR

theorem records_lev : records x K ⊢ levAts L lv := by
  unfold records
  iintro ⟨-, -, #H⟩; iexact H

/-- What a device holds of a position before it starts it: both duties' tokens and its neighbour's slot; -/
def fresh (c : Dev nD) (p : Fin 48) : sProp 𝕄 :=
  iprop(dutyTok ER (sendCell c p) 0 0 ∗ dutyTok ER (recvCell (other p c) p) 0 0 ∗ rAny (F := F) (other p c) p)
/-- while the transfer is under way: the credit of its sending cell; -/
def flying (c : Dev nD) (p : Fin 48) : sProp 𝕄 := cred (tallyAt (sendCell c p) () N)
/-- until it has finished it: the receiving cell's credit and its places in the cells' rounds; -/
def pending (c : Dev nD) (p : Fin 48) : sProp 𝕄 :=
  iprop(cred (tallyAt (recvCell c p) () N) ∗ atPos ER (sendCell c p) 0 ∅ 0 ∗ atPos ER (recvCell c p) 0 ∅ 0)
/-- and afterwards: both cells at zero and its own slot. -/
def finished (c : Dev nD) (p : Fin 48) : sProp 𝕄 :=
  iprop(semVal (sendCell c p) 0 ∗ semVal (recvCell c p) 0 ∗ rAny (F := F) c p)

/-- What a device holds of a position, having started `i` transfers and finished `j`. -/
def piece (c : Dev nD) (i j : ℕ) (p : Fin 48) : sProp 𝕄 :=
  iprop((if i ≤ p.val then fresh c p else if j ≤ p.val then flying c p else iprop(emp)) ∗ (if j ≤ p.val then pending c p else finished c p))

/-- Is a place of the send buffer under a transfer? -/
def Busy (i j : ℕ) (q : Fin 2 × Fin 4) : Prop := ∃ n < i, j ≤ n ∧ n / 4 % 2 = q.1.val ∧ n % 4 = q.2.val
instance (i j : ℕ) (q : Fin 2 × Fin 4) : Decidable (Busy i j q) := by unfold Busy; infer_instance

/-- A place of the send buffer, unless a transfer has it. -/
def place (c : Dev nD) (i j : ℕ) (q : Fin 2 × Fin 4) : sProp 𝕄 := if Busy i j q then iprop(emp) else sAny (F := F) c q

/-- What a device holds, having started `i` transfers and finished `j`. -/
def St (c : Dev nD) (i j : ℕ) : sProp 𝕄 :=
  iprop(records x K ∗ (bigSep Finset.univ fun p => piece (F := F) c i j p) ∗ (bigSep Finset.univ fun q => place (F := F) c i j q)
    ∗ ∃ W, owes (c : Thread nD τ) (owedFrom c i) W)

theorem piece_start (c : Dev nD) (p : Fin 48) (j : ℕ) (hj : j ≤ p.val) :
    (bigSep Finset.univ fun q => piece (F := F) c p.val j q)
      ⊢ iprop(fresh (F := F) c p ∗ (flying (F := F) c p -∗ bigSep Finset.univ fun q => piece (F := F) c (p.val + 1) j q)) := by
  iintro H
  ihave H := (bigSep_univ_update (Φ := fun q => piece (F := F) c p.val j q) (Ψ := fun q => piece (F := F) c (p.val + 1) j q) p (fun q hq => by
    have hne : q.val ≠ p.val := fun h => hq (Fin.ext h)
    unfold piece
    rw [if_congr (show Iff (p.val + 1 ≤ q.val) (p.val ≤ q.val) by omega) rfl rfl])) $$ H
  unfold piece
  rw [if_pos le_rfl, if_pos hj, if_neg (by omega), if_pos hj]
  icases H with ⟨⟨Hf, Hp⟩, Hk⟩
  isplitl [Hf]; · iexact Hf
  iintro Hfl
  iapply Hk
  isplitl [Hfl] <;> iassumption

theorem piece_finish (c : Dev nD) (p : Fin 48) (i : ℕ) (hi : p.val < i) :
    (bigSep Finset.univ fun q => piece (F := F) c i p.val q)
      ⊢ iprop(flying (F := F) c p ∗ pending (F := F) c p
        ∗ (finished (F := F) c p -∗ bigSep Finset.univ fun q => piece (F := F) c i (p.val + 1) q)) := by
  iintro H
  ihave H := (bigSep_univ_update (Φ := fun q => piece (F := F) c i p.val q) (Ψ := fun q => piece (F := F) c i (p.val + 1) q) p (fun q hq => by
    have hne : q.val ≠ p.val := fun h => hq (Fin.ext h)
    unfold piece
    rw [if_congr (show Iff (p.val + 1 ≤ q.val) (p.val ≤ q.val) by omega) rfl rfl, if_congr (show Iff (p.val + 1 ≤ q.val) (p.val ≤ q.val) by omega) rfl rfl])) $$ H
  unfold piece
  rw [if_neg (by omega), if_pos le_rfl, if_pos le_rfl, if_neg (by omega), if_neg (by omega), if_neg (by omega)]
  icases H with ⟨⟨Hf, Hp⟩, Hk⟩
  isplitl [Hf]; · iexact Hf
  isplitl [Hp]; · iexact Hp
  iintro Hd
  iapply Hk
  isplitr; · iempintro
  iexact Hd

theorem place_start (c : Dev nD) (p : Fin 48) (j : ℕ) (hj : j ≤ p.val) (hw : p.val < j + 8) :
    (bigSep Finset.univ fun q => place (F := F) c p.val j q)
      ⊢ iprop(sAny (F := F) c (pq p) ∗ bigSep Finset.univ fun q => place (F := F) c (p.val + 1) j q) := by
  iintro H
  ihave H := (bigSep_univ_update (Φ := fun q => place (F := F) c p.val j q) (Ψ := fun q => place (F := F) c (p.val + 1) j q) (pq p) (fun q hq => by
    have hne : ¬ (p.val / 4 % 2 = q.1.val ∧ p.val % 4 = q.2.val) := fun h => hq (Prod.ext (Fin.ext h.1.symm) (Fin.ext h.2.symm))
    unfold place
    refine if_congr ⟨?_, ?_⟩ rfl rfl
    · rintro ⟨n, h1, h2, h3⟩
      exact ⟨n, by rcases Nat.lt_succ_iff_lt_or_eq.mp h1 with h | h; · exact h
                   · subst h; exact absurd h3 hne, h2, h3⟩
    · rintro ⟨n, h1, h2, h3⟩
      exact ⟨n, by omega, h2, h3⟩)) $$ H
  unfold place
  rw [if_neg (fun ⟨n, h1, h2, h3⟩ => by have h4 : (pq p).1.val = p.val / 4 % 2 := rfl; have h5 : (pq p).2.val = p.val % 4 := rfl; omega), if_pos ⟨p.val, by omega, hj, rfl, rfl⟩]
  icases H with ⟨Hs, Hk⟩
  isplitl [Hs]; · iexact Hs
  iapply Hk; iempintro

theorem place_finish (c : Dev nD) (p : Fin 48) (i : ℕ) (hi : p.val < i) (hw : i ≤ p.val + 8) :
    (bigSep Finset.univ fun q => place (F := F) c i p.val q)
      ⊢ iprop(sAny (F := F) c (pq p) -∗ bigSep Finset.univ fun q => place (F := F) c i (p.val + 1) q) := by
  iintro H
  ihave H := (bigSep_univ_update (Φ := fun q => place (F := F) c i p.val q) (Ψ := fun q => place (F := F) c i (p.val + 1) q) (pq p) (fun q hq => by
    have hne : ¬ (p.val / 4 % 2 = q.1.val ∧ p.val % 4 = q.2.val) := fun h => hq (Prod.ext (Fin.ext h.1.symm) (Fin.ext h.2.symm))
    unfold place
    refine if_congr ⟨?_, ?_⟩ rfl rfl
    · rintro ⟨n, h1, h2, h3⟩
      exact ⟨n, h1, by omega, h3⟩
    · rintro ⟨n, h1, h2, h3⟩
      exact ⟨n, h1, by rcases Nat.lt_or_eq_of_le h2 with h | h; · exact h
                       · subst h; exact absurd h3 hne, h3⟩)) $$ H
  icases H with ⟨-, Hk⟩
  iintro Hs
  iapply Hk
  unfold place
  rw [if_neg (fun ⟨n, h1, h2, h3⟩ => by have h4 : (pq p).1.val = p.val / 4 % 2 := rfl; have h5 : (pq p).2.val = p.val % 4 := rfl; omega)]
  iexact Hs

/-! ## The buffers' views -/

/-- A chunk stored in its place is what the place reads. -/
theorem read_stored (g : Fin 2) (h : Fin 4) (f : sM.view.ty.Contents (Elt F)) (v : FVec F S256x128 .bf16) :
    (sview sM g h).view.read (Elt F) ((sM.access (rectS g h)).write (Elt F) f (shapeCast S1x1x256x128 v shapeCasts_S256x128_S1x1x256x128) Finset.univ) = v := by
  have h1 : (sview sM g h).view.read (Elt F) ((sM.access (rectS g h)).write (Elt F) f (shapeCast S1x1x256x128 v shapeCasts_S256x128_S1x1x256x128) Finset.univ)
      = shapeCast S256x128 ((sM.access (rectS g h)).read (Elt F) ((sM.access (rectS g h)).write (Elt F) f (shapeCast S1x1x256x128 v shapeCasts_S256x128_S1x1x256x128) Finset.univ)) shapeCasts_S1x1x256x128_S256x128 := rfl
  rw [h1, View.read_write_univ]
  funext i
  simp only [shapeCast]
  rw [Shape.reshapeEquiv_reshapeEquiv, Shape.reshapeEquiv_self]

/-- What a slot's load reads, as a chunk, is what the slot's view reads. -/
theorem read_slot (n : Fin 48) (f : rM.view.ty.Contents (Elt F)) :
    shapeCast S256x128 (rM.view.readAt (Elt F) (rectR n).toLoadRect f) shapeCasts_S1x256x128_S256x128 = (rview rM n).view.read (Elt F) f := rfl

end Cert.Sort

end
-- ==== Proof.Steps.lean ====
/- The body's pieces as steps between the states: a start, a finish, an exchange's four starts or finishes, and the two
   ways in which the body passes from one exchange to the next. -/
module

public import proofs.«01_k».proof.Proof.State

@[expose] public section

noncomputable section

namespace Cert.Sort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (x : Dev nD → Vec F S1024x256 .bf16) (K : Dev nD × Cell → ℕ)

/-- The transfer of a position: the send place under it, the neighbour's slot in it, and the credit it owes off. -/
theorem wp_send_at (c : Dev nD) (p : Fin 48)
    {hsc : (rV p : Memref sig (Dev.tc (other p c) : Thread nD τ).2.kind .vmem S256x128 .bf16).view.ref.isScScratch = false}
    {hsrc : (sview sM (pg p) (ph p)).view.WordExact} {hdst : (rV p).view.WordExact}
    {hsem : DmaTarget.Typed .vmem (.dma (cellAt cc0_scratch3 (pslot p))) (.remote (Dev.tc (other p c) : Thread nD τ) (rV p) (.dma (cellAt cc0_scratch2 (pslot p))) hsc)}
    {α : Type} {Q : α → sProp 𝕄} {k : PUnit → Prog (TpuEff nD τ sig (Elt F) Λ₀ .tc) α}
    (fs : Buf (Elt F) (sM.view.loc (c : Thread nD τ))) (hfs : (sview sM (pg p) (ph p)).view.read (Elt F) fs = sent x (pe p) (pg p) c (ph p))
    (fr : Buf (Elt F) (rM.view.loc (other p c : Thread nD τ))) (W : Waits sig Unit) :
    iprop(cellInv ER (sched x) (K (c, some (false, p))) (sendCell c p) ∗ cellInv ER (sched x) (K (other p c, some (true, p))) (recvCell (other p c) p)
        ∗ sPts c (pq p) fs ∗ rPts (other p c) p fr
        ∗ owes (c : Thread nD τ) (owedFrom c p.val) W
        ∗ dutyTok ER (sendCell c p) 0 0 ∗ reached ER (sendCell c p) 0
        ∗ dutyTok ER (recvCell (other p c) p) 0 0 ∗ reached ER (recvCell (other p c) p) 0)
      ⊢ iprop(((cred (tallyAt (sendCell c p) () N) ∗ owes (c : Thread nD τ) (owedFrom c (p.val + 1)) W) -∗ run c (k ⟨⟩) Q)
          -∗ run c (.op (.enqueueDma (sview sM (pg p) (ph p)) (.remote (Dev.tc (other p c) : Thread nD τ) (rV p) (.dma (cellAt cc0_scratch2 (pslot p))) hsc)
              (.dma (cellAt cc0_scratch3 (pslot p))) hsrc hdst hsem) k) Q) := by
  rw [sPts_eq, rPts_eq]
  refine Rounds.wp_send_pointsTo 𝒱₀ ER (sched x) (c : Thread nD τ) none (c' := (other p c : Thread nD τ)) (src := sview sM (pg p) (ph p)) (dst := rV p)
    (sS := .dma (cellAt cc0_scratch2 (pslot p))) (sem := .dma (cellAt cc0_scratch3 (pslot p))) (fs := fs) (κ₁ := K (c, some (false, p))) (κ₂ := K (other p c, some (true, p)))
    (r₁ := 0) (r₂ := 0) (d₁ := 0) (d₂ := 0) (fd := fr)
    (by rw [duties_send]; exact Finset.mem_singleton_self _) (by rw [duties_recv]; exact Finset.mem_singleton_self _)
    () () N (N_recv p) (amount_send x c p 0) (amount_recv x (other p c) p 0) (owedFrom c (p.val + 1)) (owedFrom_step c p) (W := W) ?_ ?_
  · rw [payload_send, ← sPts_eq c (pq p) fs]
    unfold sAny
    iintro H
    iexists fs
    iexact H
  · rw [payload_recv]
    unfold recvPay
    iintro H
    iexists ((rV p).view.write (Elt F) fr ((sview sM (pg p) (ph p)).view.read (Elt F) fs) Finset.univ)
    isplitr
    · ipureintro
      exact (View.read_write_univ _ _).trans (hfs.trans (congrArg (fun d => sent x (pe p) (pg p) d (ph p)) (nbr_nbr (pt p) c).symm))
    · iapply (Entails.of_eq (rPts_eq (other p c) p ((rV p).view.write (Elt F) fr ((sview sM (pg p) (ph p)).view.read (Elt F) fs) Finset.univ)).symm)
      iexact H

/-- A program that is over has its result's assertion. -/
theorem run_ret {α : Type} (c : Dev nD) (a : α) (Q : α → sProp 𝕄) : Q a ⊢ run c (.ret a) Q := by
  iintro H
  unfold run
  rw [wp_ret]; imodintro
  iexact H

/-- The wait for one of the transfer cells. -/
theorem wp_wait_at (c : Dev nD) (ck : Cell) (sem : DmaSem sig) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma sem) N K')
    (hex : (sched x).expect ((c : Thread nD τ), .dma sem) 0 = N)
    {α : Type} {Q : α → sProp 𝕄} {k : PUnit → Prog (TpuEff nD τ sig (Elt F) Λ₀ .tc) α} (O : CellTallies nD τ sig Unit) (W : Waits sig Unit) :
    iprop(cellInv ER (sched x) (K (c, ck)) ((c : Thread nD τ), .dma sem) ∗ cred (tallyAt ((c : Thread nD τ), .dma sem) () N) ∗ owes (c : Thread nD τ) O W
        ∗ MayWait (c : Thread nD τ) (.dma sem) () O ∗ atPos ER ((c : Thread nD τ), .dma sem) 0 ∅ 0)
      ⊢ iprop(((owes (c : Thread nD τ) O (insert (.dma sem, ()) W) ∗ atPos ER ((c : Thread nD τ), .dma sem) 1 ∅ 0 ∗ reached ER ((c : Thread nD τ), .dma sem) 1
            ∗ bigSep ((sched x).duties ((c : Thread nD τ), .dma sem) 0 \ ∅) (fun d => (sched x).payload ((c : Thread nD τ), .dma sem) 0 d)) -∗ run c (k ⟨⟩) Q)
          -∗ run c (.op w k) Q) := by
  exact Rounds.wp_wait_rest_token 𝒱₀ ER (sched x) (c : Thread nD τ) none (κ := K (c, ck))
      hw (Set.mem_univ _) () (O := O) (W := W) (R := 0) (m := 0) (T := ∅)
      (by rw [Nat.zero_add, hex])

/-- A place of the send buffer is whole words. -/
theorem wordS (g : Fin 2) (h : Fin 4) : (sview sM g h).view.WordExact :=
  ((Memref.isWhole_whole _).wordExact_slice rfl _ (wordsS g h)).reshape _ _
/-- A slot of the receive buffer is whole words. -/
theorem wordR (n : Fin 48) : (rview rM n).view.WordExact :=
  ((Memref.isWhole_whole _).wordExact_slice rfl _ (wordsR n)).reshape _ _

/-- The wait for the departure. -/
theorem wp_wait_send (c : Dev nD) (p : Fin 48) (hsrc : (rV p).view.WordExact) (hdst : (sview sM (pg p) (ph p)).view.WordExact)
    {α : Type} {Q : α → sProp 𝕄} {k : PUnit → Prog (TpuEff nD τ sig (Elt F) Λ₀ .tc) α} (O : CellTallies nD τ sig Unit) (W : Waits sig Unit) :
    iprop(cellInv ER (sched x) (K (c, some (false, p))) (sendCell c p) ∗ cred (tallyAt (sendCell c p) () N) ∗ owes (c : Thread nD τ) O W
        ∗ MayWait (c : Thread nD τ) (.dma (cellAt cc0_scratch2 (pslot p))) () O ∗ atPos ER (sendCell c p) 0 ∅ 0)
      ⊢ iprop(((owes (c : Thread nD τ) O (insert (.dma (cellAt cc0_scratch2 (pslot p)), ()) W) ∗ atPos ER (sendCell c p) 1 ∅ 0 ∗ reached ER (sendCell c p) 1
            ∗ bigSep ((sched x).duties (sendCell c p) 0 \ ∅) (fun d => (sched x).payload (sendCell c p) 0 d)) -∗ run c (k ⟨⟩) Q)
          -∗ run c (.op (.waitDma2 (cellAt cc0_scratch2 (pslot p)) (rV p) (sview sM (pg p) (ph p)) hsrc hdst) k) Q) :=
  wp_wait_at x K c (some (false, p)) (cellAt cc0_scratch2 (pslot p)) (wpE_waitDma2_eq (src := rV p) (dst := sview sM (pg p) (ph p)) (hsrc := hsrc) (hdst := hdst) 𝒱₀ (c : Thread nD τ) none Set.univ) (expect_send x c p) O W

/-- The wait for the arrival. -/
theorem wp_wait_recv (c : Dev nD) (p : Fin 48) (hsrc : (sview sM (pg p) (ph p)).view.WordExact) (hdst : (rV p).view.WordExact)
    {α : Type} {Q : α → sProp 𝕄} {k : PUnit → Prog (TpuEff nD τ sig (Elt F) Λ₀ .tc) α} (O : CellTallies nD τ sig Unit) (W : Waits sig Unit) :
    iprop(cellInv ER (sched x) (K (c, some (true, p))) (recvCell c p) ∗ cred (tallyAt (recvCell c p) () N) ∗ owes (c : Thread nD τ) O W
        ∗ MayWait (c : Thread nD τ) (.dma (cellAt cc0_scratch3 (pslot p))) () O ∗ atPos ER (recvCell c p) 0 ∅ 0)
      ⊢ iprop(((owes (c : Thread nD τ) O (insert (.dma (cellAt cc0_scratch3 (pslot p)), ()) W) ∗ atPos ER (recvCell c p) 1 ∅ 0 ∗ reached ER (recvCell c p) 1
            ∗ bigSep ((sched x).duties (recvCell c p) 0 \ ∅) (fun d => (sched x).payload (recvCell c p) 0 d)) -∗ run c (k ⟨⟩) Q)
          -∗ run c (.op (.waitDma2 (cellAt cc0_scratch3 (pslot p)) (sview sM (pg p) (ph p)) (rV p) hsrc hdst) k) Q) :=
  wp_wait_at x K c (some (true, p)) (cellAt cc0_scratch3 (pslot p)) (wpE_waitDma2_eq (src := sview sM (pg p) (ph p)) (dst := rV p) (hsrc := hsrc) (hdst := hdst) 𝒱₀ (c : Thread nD τ) none Set.univ) (expect_recv x c p) O W

/-- The start of one transfer. -/
theorem start_step (c : Dev nD) (p : Fin 48) (j : ℕ) (hj : j ≤ p.val) (hw : p.val < j + 8)
    (v : FVec F S256x128 .bf16) (hv : v = sent x (pe p) (pg p) c (ph p)) :
    St x K c p.val j ⊢ run c (startHalf sM (Memref.isWhole_whole _) rM (Memref.isWhole_whole _) cc0_scratch2 cc0_scratch3 c (pg p) (pe p) (ph p) v)
      (fun _ => St x K c (p.val + 1) j) := by
  unfold startHalf
  simp only [Prog.lift, Prog.bind_op, Prog.bind_ret, Prog.pure_eq_ret]
  unfold St
  iintro ⟨#HR, Hp, Hs, ⟨%W, HO⟩⟩
  ihave Hp := (piece_start c p j hj) $$ Hp
  ihave Hs := (place_start c p j hj hw) $$ Hs
  icases Hp with ⟨Hf, Hp⟩
  icases Hs with ⟨Hb, Hs⟩
  unfold fresh rAny sAny
  icases Hf with ⟨HtS, HtR, ⟨%fr, Hr⟩⟩
  icases Hb with ⟨%fs, Hb⟩
  unfold sPts
  iapply (wp_load 𝒱₀ (c : Thread nD τ) none Set.univ (m := sM) (by rw [View.set_slice]; exact Finset.Subset.refl _)) $$ Hb
  iintro Hb
  iapply (wp_store 𝒱₀ (c : Thread nD τ) none Set.univ (m := sM) (r := rectS (pg p) (ph p)) (Mk := Finset.univ)
    (S := (sM.access (rectS (pg p) (ph p))).set) (Finset.Subset.refl _)) $$ Hb
  iintro Hb
  iapply (wp_send_at x K c p (Q := fun _ => _) ((sM.access (rectS (pg p) (ph p))).write (Elt F) fs (shapeCast S1x1x256x128 v shapeCasts_S256x128_S1x1x256x128) Finset.univ)
    ((read_stored _ _ _ _).trans hv) fr W) $$ [Hb Hr HO HtS HtR]
  · isplitr; · iapply (records_inv x K (c, some (false, p))); iexact HR
    isplitr; · iapply (records_inv x K (other p c, some (true, p))); iexact HR
    isplitl [Hb]; · unfold sPts; iexact Hb
    isplitl [Hr]; · iexact Hr
    isplitl [HO]; · iexact HO
    isplitl [HtS]; · iexact HtS
    isplitr; · iapply (records_reached x K (c, some (false, p))); iexact HR
    isplitl [HtR]; · iexact HtR
    iapply (records_reached x K (other p c, some (true, p))); iexact HR
  iintro ⟨HcS, HO⟩
  iapply run_ret
  isplitr; · iexact HR
  isplitl [Hp HcS]
  · iapply Hp; unfold flying; iexact HcS
  isplitl [Hs]; · iexact Hs
  iexists W; iexact HO

/-- The finish of one transfer: the chunk becomes what the exchange makes of both. -/
theorem finish_step (c : Dev nD) (p : Fin 48) (i : ℕ) (hi : p.val < i) (hw : i ≤ p.val + 8)
    (v : FVec F S256x128 .bf16) (hv : v = sent x (pe p) (pg p) c (ph p)) :
    St x K c i p.val ⊢ run c (finishHalf sM (Memref.isWhole_whole _) rM (Memref.isWhole_whole _) cc0_scratch2 cc0_scratch3 c (pg p) (pe p) (ph p) v)
      (fun w => iprop(⌜w = got (pe p) (sent x (pe p) (pg p)) c (ph p)⌝ ∗ St x K c i (p.val + 1))) := by
  unfold finishHalf
  simp only [Prog.lift, Prog.bind_op, Prog.bind_ret, Prog.pure_eq_ret]
  unfold St
  iintro ⟨#HR, Hp, Hs, ⟨%W, HO⟩⟩
  ihave Hp := (piece_finish c p i hi) $$ Hp
  ihave Hs := (place_finish c p i hi hw) $$ Hs
  unfold flying pending
  icases Hp with ⟨HcS, ⟨HcR, HaS, HaR⟩, Hp⟩
  iapply (wp_wait_send x K c p (wordR _) (wordS _ _) (Q := fun _ => _) (owedFrom c i) W) $$ [HcS HO HaS]
  · isplitr; · iapply (records_inv x K (c, some (false, p))); iexact HR
    isplitl [HcS]; · iexact HcS
    isplitl [HO]; · iexact HO
    isplitr
    · iapply (mayWait_from (F := F) c (csem (some (false, p))) i 0 (by omega) (fun u => (lv_send c p u).le)); iapply (records_lev x K); iexact HR
    iexact HaS
  iintro ⟨HO, HaS, -, Hpay⟩
  ihave Hb := (Entails.of_eq (rest_send x c p)) $$ Hpay
  iapply (wp_wait_recv x K c p (wordS _ _) (wordR _) (Q := fun _ => _) (owedFrom c i) (insert (csem (some (false, p)), ()) W)) $$ [HcR HO HaR]
  · isplitr; · iapply (records_inv x K (c, some (true, p))); iexact HR
    isplitl [HcR]; · iexact HcR
    isplitl [HO]; · iexact HO
    isplitr
    · iapply (mayWait_from (F := F) c (csem (some (true, p))) i (2 + p.val) (by omega) (fun u => (lv_recv c p u).le)); iapply (records_lev x K); iexact HR
    iexact HaR
  iintro ⟨HO, HaR, -, Hpay⟩
  ihave Hr := (Entails.of_eq (rest_recv x c p)) $$ Hpay
  unfold recvPay
  icases Hr with ⟨%f, %hf, Hr⟩
  unfold rPts
  imod (Rounds.cell_close ER (sched x) (Set.mem_univ (K (c, some (false, p)))) (fun h => h) (R := 0 + 1) (duties_later x (sendCell c p))) $$ [HaS] with HzS
  · isplitr; · iapply (records_inv x K (c, some (false, p))); iexact HR
    iexact HaS
  imod (Rounds.cell_close ER (sched x) (Set.mem_univ (K (c, some (true, p)))) (fun h => h) (R := 0 + 1) (duties_later x (recvCell c p))) $$ [HaR] with HzR
  · isplitr; · iapply (records_inv x K (c, some (true, p))); iexact HR
    iexact HaR
  iapply (wp_load 𝒱₀ (c : Thread nD τ) none Set.univ (m := rM) (by rw [View.set_slice]; exact Finset.Subset.refl _)) $$ Hr
  iintro Hr
  iapply run_ret
  isplitr
  · ipureintro
    have h1 : shapeCast S256x128 (rM.view.readAt (Elt F) (rectR (pslot p)).toLoadRect f) shapeCasts_S1x256x128_S256x128
        = sent x (pe p) (pg p) (other p c) (ph p) := (read_slot (pslot p) f).trans hf
    rw [hv]
    exact congrArg (combine (pe p) (off c) (sent x (pe p) (pg p) c (ph p))) h1
  isplitr; · iexact HR
  isplitl [Hp HzS HzR Hr]
  · iapply Hp; unfold finished rAny
    isplitl [HzS]; · iexact HzS
    isplitl [HzR]; · iexact HzR
    iexists f; unfold rPts; iexact Hr
  isplitl [Hs Hb]
  · iapply Hs; iexact Hb
  iexists _; iexact HO

end Cert.Sort

end
-- ==== Proof.Body.lean ====
/- A device's whole body: the exchanges chunk by chunk, the barrier before them, the loads and stores around them. -/
module

public import proofs.«01_k».proof.Proof.Steps
public import Idealize.ShloMosaic.Lib.Ring
public import Idealize.ShloMosaic.Lib.WritesUnit

@[expose] public section

noncomputable section

namespace Cert.Sort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Running one program after another -/

/-- One program, then the next from what the first leaves. -/
theorem run_bind {c : Dev nD} {α β : Type} {p : Prog (TpuEff nD τ sig (Elt F) Λ₀ .tc) α} {k : α → Prog (TpuEff nD τ sig (Elt F) Λ₀ .tc) β} {P : sProp 𝕄} {M : α → sProp 𝕄} {Q : β → sProp 𝕄}
    (h1 : P ⊢ run c p M) (h2 : ∀ a, M a ⊢ run c (k a) Q) : P ⊢ run c (p >>= k) Q := by
  unfold run at *
  rw [wp_bind]
  exact h1.trans (wp_mono _ _ _ h2)

/-- The same, the first program's result being known. -/
theorem run_bind_val {c : Dev nD} {α β : Type} {p : Prog (TpuEff nD τ sig (Elt F) Λ₀ .tc) α} {k : α → Prog (TpuEff nD τ sig (Elt F) Λ₀ .tc) β} {P P' : sProp 𝕄} {Q : β → sProp 𝕄}
    (v : α) (h1 : P ⊢ run c p fun a => iprop(⌜a = v⌝ ∗ P')) (h2 : P' ⊢ run c (k v) Q) : P ⊢ run c (p >>= k) Q :=
  run_bind h1 fun a => by
    iintro ⟨%h, H⟩
    subst h
    iapply h2; iexact H

/-- A program that only returns. -/
theorem run_pure {c : Dev nD} {α : Type} {P : sProp 𝕄} {M : α → sProp 𝕄}
    (a : α) (h : P ⊢ M a) : P ⊢ run c (pure a) M := h.trans (run_ret c a M)

/-- A program leaves alone what it does not use. -/
theorem run_frame {c : Dev nD} {α : Type} {p : Prog (TpuEff nD τ sig (Elt F) Λ₀ .tc) α} {P R : sProp 𝕄} {M : α → sProp 𝕄}
    (h : P ⊢ run c p M) : iprop(R ∗ P) ⊢ run c p fun a => iprop(R ∗ M a) := by
  unfold run at *
  exact (sep_mono_right h).trans (wp_frame_l _ _ _)

/-- The same, the program's result being known. -/
theorem run_frame_val {c : Dev nD} {α : Type} {p : Prog (TpuEff nD τ sig (Elt F) Λ₀ .tc) α} {P P' R : sProp 𝕄}
    (v : α) (h : P ⊢ run c p fun a => iprop(⌜a = v⌝ ∗ P')) :
    iprop(R ∗ P) ⊢ run c p fun a => iprop(⌜a = v⌝ ∗ R ∗ P') := by
  unfold run at *
  refine ((sep_mono_right h).trans (wp_frame_l _ _ _)).trans (wp_mono _ _ _ fun a => ?_)
  iintro ⟨HR, %h, HP⟩
  isplitr; · ipureintro; exact h
  isplitl [HR] <;> iassumption

/-! ## The exchanges -/

variable (x : Dev nD → Vec F S1024x256 .bf16) (K : Dev nD × Cell → ℕ) (c : Dev nD)

/-- The position of a chunk of a half in an exchange. -/
def posAt (e : Fin 6) (g : Fin 2) (h : Fin 4) : Fin 48 := ⟨(e.val * 2 + g.val) * 4 + h.val, by omega⟩
theorem pe_at (e : Fin 6) (g : Fin 2) (h : Fin 4) : pe (posAt e g h) = e := Fin.ext (by unfold pe posAt; dsimp only; omega)
theorem pg_at (e : Fin 6) (g : Fin 2) (h : Fin 4) : pg (posAt e g h) = g := Fin.ext (by unfold pg posAt; dsimp only; omega)
theorem ph_at (e : Fin 6) (g : Fin 2) (h : Fin 4) : ph (posAt e g h) = h := Fin.ext (by unfold ph posAt; dsimp only; omega)

/-- Start a chunk's transfer, a device having started `i` and finished `j`. -/
theorem start_chunk (e : Fin 6) (g : Fin 2) (h : Fin 4) (i j : ℕ) (hi : i = (e.val * 2 + g.val) * 4 + h.val) (hj : j ≤ i) (hw : i < j + 8)
    (v : FVec F S256x128 .bf16) (hv : v = sent x e g c h) :
    St x K c i j ⊢ run c (startHalf sM (Memref.isWhole_whole _) rM (Memref.isWhole_whole _) cc0_scratch2 cc0_scratch3 c g e h v)
      (fun _ => St x K c (i + 1) j) := by
  subst hi
  have := start_step x K c (posAt e g h) j hj hw v
  rw [pe_at, pg_at, ph_at] at this
  exact this hv

/-- Finish a chunk's transfer. -/
theorem finish_chunk (e : Fin 6) (g : Fin 2) (h : Fin 4) (i j : ℕ) (hj : j = (e.val * 2 + g.val) * 4 + h.val) (hi : j < i) (hw : i ≤ j + 8)
    (v : FVec F S256x128 .bf16) (hv : v = sent x e g c h) :
    St x K c i j ⊢ run c (finishHalf sM (Memref.isWhole_whole _) rM (Memref.isWhole_whole _) cc0_scratch2 cc0_scratch3 c g e h v)
      (fun w => iprop(⌜w = got e (sent x e g) c h⌝ ∗ St x K c i (j + 1))) := by
  subst hj
  have := finish_step x K c (posAt e g h) i hi hw v
  rw [pe_at, pg_at, ph_at] at this
  exact this hv

/-- Start the four transfers of an exchange. -/
theorem start_all (e : Fin 6) (g : Fin 2) (i j : ℕ) (hi : i = (e.val * 2 + g.val) * 4) (hj : j ≤ i) (hw : i + 3 < j + 8)
    (C : Fin 4 → FVec F S256x128 .bf16) (hC : C = sent x e g c) :
    St x K c i j ⊢ run c (startAll sM (Memref.isWhole_whole _) rM (Memref.isWhole_whole _) cc0_scratch2 cc0_scratch3 c g e C)
      (fun _ => St x K c (i + 4) j) := by
  subst hC
  unfold startAll
  exact run_bind (start_chunk x K c e g 0 i j hi hj (by omega) _ rfl) fun _ =>
    run_bind (start_chunk x K c e g 1 (i + 1) j (by subst hi; rfl) (by omega) (by omega) _ rfl) fun _ =>
    run_bind (start_chunk x K c e g 2 (i + 2) j (by subst hi; rfl) (by omega) (by omega) _ rfl) fun _ =>
    start_chunk x K c e g 3 (i + 3) j (by subst hi; rfl) (by omega) (by omega) _ rfl

theorem four (C : Fin 4 → FVec F S256x128 .bf16) : ![C 0, C 1, C 2, C 3] = C := funext fun h => by fin_cases h <;> rfl

/-- Finish the four transfers of an exchange. -/
theorem finish_all (e : Fin 6) (g : Fin 2) (i j : ℕ) (hj : j = (e.val * 2 + g.val) * 4) (hi : j + 4 ≤ i) (hw : i ≤ j + 8)
    (C : Fin 4 → FVec F S256x128 .bf16) (hC : C = sent x e g c) :
    St x K c i j ⊢ run c (finishAll sM (Memref.isWhole_whole _) rM (Memref.isWhole_whole _) cc0_scratch2 cc0_scratch3 c g e C)
      (fun D => iprop(⌜D = got e (sent x e g) c⌝ ∗ St x K c i (j + 4))) := by
  subst hC
  unfold finishAll
  refine run_bind_val _ (finish_chunk x K c e g 0 i j hj (by omega) (by omega) _ rfl) <|
    run_bind_val _ (finish_chunk x K c e g 1 i (j + 1) (by subst hj; rfl) (by omega) (by omega) _ rfl) <|
    run_bind_val _ (finish_chunk x K c e g 2 i (j + 2) (by subst hj; rfl) (by omega) (by omega) _ rfl) <|
    run_bind_val _ (finish_chunk x K c e g 3 i (j + 3) (by subst hj; rfl) (by omega) (by omega) _ rfl) <|
    run_pure _ ?_
  iintro H
  isplitr; · ipureintro; exact four _
  iexact H

/-- Finish an exchange's four transfers, each chunk starting the next exchange. -/
theorem pass_all (e e' : Fin 6) (g : Fin 2) (i j : ℕ) (hj : j = (e.val * 2 + g.val) * 4) (hi : i = (e'.val * 2 + g.val) * 4) (hij : i = j + 8)
    (hs : got e (sent x e g) = sent x e' g) (C : Fin 4 → FVec F S256x128 .bf16) (hC : C = sent x e g c) :
    St x K c i j ⊢ run c (passAll sM (Memref.isWhole_whole _) rM (Memref.isWhole_whole _) cc0_scratch2 cc0_scratch3 c g e e' C)
      (fun D => iprop(⌜D = sent x e' g c⌝ ∗ St x K c (i + 4) (j + 4))) := by
  subst hC
  unfold passAll
  refine run_bind_val _ (finish_chunk x K c e g 0 i j hj (by omega) (by omega) _ rfl) <|
    run_bind (start_chunk x K c e' g 0 i (j + 1) hi (by omega) (by omega) _ (by rw [hs])) fun _ =>
    run_bind_val _ (finish_chunk x K c e g 1 (i + 1) (j + 1) (by subst hj; rfl) (by omega) (by omega) _ rfl) <|
    run_bind (start_chunk x K c e' g 1 (i + 1) (j + 2) (by subst hi; rfl) (by omega) (by omega) _ (by rw [hs])) fun _ =>
    run_bind_val _ (finish_chunk x K c e g 2 (i + 2) (j + 2) (by subst hj; rfl) (by omega) (by omega) _ rfl) <|
    run_bind (start_chunk x K c e' g 2 (i + 2) (j + 3) (by subst hi; rfl) (by omega) (by omega) _ (by rw [hs])) fun _ =>
    run_bind_val _ (finish_chunk x K c e g 3 (i + 3) (j + 3) (by subst hj; rfl) (by omega) (by omega) _ rfl) <|
    run_bind (start_chunk x K c e' g 3 (i + 3) (j + 4) (by subst hi; rfl) (by omega) (by omega) _ (by rw [hs])) fun _ =>
    run_pure _ ?_
  iintro H
  isplitr; · ipureintro; rw [← hs]; exact four _
  iexact H

/-- Finish an exchange, run the stages within the block, start the next. -/
theorem tail_all (e e' : Fin 6) (k : ℕ) (g : Fin 2) (i j : ℕ) (hj : j = (e.val * 2 + g.val) * 4) (hi : i = (e'.val * 2 + g.val) * 4) (hij : i = j + 8)
    (hs : turn k (got e (sent x e g)) = sent x e' g) (C : Fin 4 → FVec F S256x128 .bf16) (hC : C = sent x e g c) :
    St x K c i j ⊢ run c (tailAll sM (Memref.isWhole_whole _) rM (Memref.isWhole_whole _) cc0_scratch2 cc0_scratch3 c g e e' k C)
      (fun D => iprop(⌜D = sent x e' g c⌝ ∗ St x K c (i + 4) (j + 4))) := by
  unfold tailAll
  refine run_bind_val _ (finish_all x K c e g i j hj (by omega) (by omega) C hC) <|
    run_bind (start_all x K c e' g i (j + 4) hi (by omega) (by omega) _ (by rw [← hs]; rfl)) fun _ => run_pure _ ?_
  iintro H
  isplitr; · ipureintro; rw [← hs]; rfl
  iexact H

/-! ## The loads and the stores -/

/-- The device's block, staged. -/
def xPts : sProp 𝕄 := xM.view.loc (c : Thread nD τ) ↦{fullShare} (x c : Buf (Elt F) (xM.view.loc (c : Thread nD τ)))
/-- The result's staging buffer, holding `f`. -/
def oPts (f : Buf (Elt F) (oM.view.loc (c : Thread nD τ))) : sProp 𝕄 := oM.view.loc (c : Thread nD τ) ↦{fullShare} f

/-- Read a column half, sort it, start the first exchange. -/
theorem open_half (g : Fin 2) (i : ℕ) (hi : i = g.val * 4) (f : Buf (Elt F) (oM.view.loc (c : Thread nD τ))) :
    iprop((xPts x c ∗ oPts c f) ∗ St x K c i 0) ⊢ run c (openHalf xM sM (Memref.isWhole_whole _) rM (Memref.isWhole_whole _) cc0_scratch2 cc0_scratch3 c g)
      (fun D => iprop(⌜D = sent x 0 g c⌝ ∗ (xPts x c ∗ oPts c f) ∗ St x K c (i + 4) 0)) := by
  unfold openHalf
  simp only [Prog.lift, Prog.bind_op, Prog.bind_ret]
  unfold xPts
  iintro ⟨⟨Hx, Ho⟩, HS⟩
  iapply (wp_load 𝒱₀ (c : Thread nD τ) none Set.univ (m := xM) (Finset.subset_univ _)) $$ Hx
  iintro Hx
  have hp : iprop((xPts x c ∗ oPts c f) ∗ St x K c (i + 4) 0)
      ⊢ iprop(⌜chunk (localSort (off c) 10 (half (x c) g)) = sent x 0 g c⌝ ∗ (xPts x c ∗ oPts c f) ∗ St x K c (i + 4) 0) := by
    iintro H; isplitr; · ipureintro; rfl
    iexact H
  iapply (run_bind (run_frame (R := iprop(xPts x c ∗ oPts c f)) (start_all x K c 0 g i 0 (by rw [hi]; simp) (by omega) (by omega) (chunk (localSort (off c) 10 (half (x c) g))) rfl))
    fun _ => run_pure (chunk (localSort (off c) 10 (half (x c) g))) hp)
  isplitl [Hx Ho]
  · isplitl [Hx]; · unfold xPts; iexact Hx
    iexact Ho
  iexact HS

/-- Finish the last exchange, run the last stages, write the column half of the result. -/
theorem close_half (g : Fin 2) (j : ℕ) (hj : j = (10 + g.val) * 4) (f : Buf (Elt F) (oM.view.loc (c : Thread nD τ)))
    (C : Fin 4 → FVec F S256x128 .bf16) (hC : C = sent x 5 g c) :
    iprop((xPts x c ∗ oPts c f) ∗ St x K c 48 j) ⊢ run c (closeHalf oM (Memref.isWhole_whole _) sM (Memref.isWhole_whole _) rM (Memref.isWhole_whole _) cc0_scratch2 cc0_scratch3 c g C)
      (fun _ => iprop((xPts x c ∗ oPts c ((oM.access (rectX g)).write (Elt F) f (result x g c) Finset.univ)) ∗ St x K c 48 (j + 4))) := by
  unfold closeHalf
  refine run_bind_val _ (run_frame_val _ (finish_all x K c 5 g 48 j hj (by omega) (by omega) C hC)) ?_
  simp only [Prog.lift, Prog.bind_op, Prog.bind_ret]
  unfold oPts
  iintro ⟨⟨Hx, Ho⟩, HS⟩
  iapply (wp_load 𝒱₀ (c : Thread nD τ) none Set.univ (m := oM) (Finset.subset_univ _)) $$ Ho
  iintro Ho
  iapply (wp_store 𝒱₀ (c : Thread nD τ) none Set.univ (m := oM) (r := rectX g) (Mk := Finset.univ) (Finset.subset_univ _)) $$ Ho
  iintro Ho
  iapply run_ret
  isplitl [Hx Ho]
  · isplitl [Hx]; · iexact Hx
    iexact Ho
  iexact HS

end Cert.Sort

end
-- ==== Proof.BodyEq.lean ====
/- The printed body is the loops of `Net`. -/
module

public import proofs.«01_k».proof.Proof.Net
public import Idealize.ShloMosaic.Lib.Pipeline.Regions

@[expose] public section

noncomputable section

namespace Cert.Sort

open Idealize.ShloMosaic Idealize.SL.Sem Cert.KernelIdeal Cert.KernelIdeal.Gen

variable {F : FTy → Type} [FloatOps F]

/-- The printed body is `bodyProg`. -/
theorem body_eq (arg0 : Memref sig .tc .vmem S1024x256 .bf16) (harg0 : arg0.IsWhole)
    (arg1 : Memref sig .tc .vmem S1024x256 .bf16) (harg1 : arg1.IsWhole)
    (arg2 : Memref sig .tc .vmem S2x4x256x128 .bf16) (harg2 : arg2.IsWhole)
    (arg3 : Memref sig .tc .vmem S48x256x128 .bf16) (harg3 : arg3.IsWhole)
    (arg4 : DmaSems sig S48) (arg5 : DmaSems sig S48) :
    cc0_body (F := F) arg0 harg0 arg1 harg1 arg2 harg2 arg3 harg3 arg4 arg5
      = bodyProg arg0 arg1 harg1 arg2 harg2 arg3 harg3 arg4 arg5 := by
  chain_rfl

end Cert.Sort
-- ==== Proof.Whole.lean ====
/- A whole body from the barrier to the last store. -/
module
public import proofs.«01_k».proof.Proof.Steps
public import proofs.«01_k».proof.Proof.Body
public import proofs.«01_k».proof.Proof.BodyEq

@[expose] public section

noncomputable section

namespace Cert.Sort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (x : Dev nD → Vec F S1024x256 .bf16) (K : Dev nD × Cell → ℕ) (c : Dev nD)

theorem three (Φ : Fin 3 → sProp 𝕄) : bigSep Finset.univ Φ = iprop(Φ 0 ∗ Φ 1 ∗ Φ 2) :=
  bigSep_univ_eq_bigSepL [0, 1, 2] (by decide) (by decide) Φ

/-! ## The result -/

/-- The device's result: each column half by its own. -/
def outV : Vec F S1024x256 .bf16 := fun i =>
  result x ⟨(i 1).val / 128, by have h : (i 1).val < 256 := (i 1).isLt; omega⟩ c (fun a => match a with
    | ⟨0, _⟩ => ⟨(i 0).val, (i 0).isLt⟩
    | ⟨1, _⟩ => ⟨(i 1).val % 128, Nat.mod_lt _ (by decide)⟩)

/-- The two stores leave the result, whatever was there before. -/
theorem write_out (f : Buf (Elt F) (oM.view.loc (c : Thread nD τ))) :
    (oM.access (rectX 1)).write (Elt F) ((oM.access (rectX 0)).write (Elt F) f (result x 0 c) Finset.univ) (result x 1 c) Finset.univ = outV x c := by
  funext i
  have h256 : (i 1).val < 256 := (i 1).isLt
  by_cases h : (i 1).val < 128
  · refine (View.read_writes_cons_unit_of_not_mem (Val := Elt F) oM.view f (inbX 1) (result x 1 c) [⟨rectX 0, result x 0 c⟩] i rfl 1 (Or.inl (by simpa using h))).trans ?_
    refine (View.read_writes_cons_unit_of_mem (Val := Elt F) oM.view f (inbX 0) (result x 0 c) [] i (fun a => match a with
      | ⟨0, _⟩ => ⟨(i 0).val, (i 0).isLt⟩
      | ⟨1, _⟩ => ⟨(i 1).val % 128, Nat.mod_lt _ (by decide)⟩) rfl ?_).trans ?_
    · intro a
      match a with
      | ⟨0, _⟩ => exact (Nat.zero_add _).symm
      | ⟨1, _⟩ => show (i 1).val = 128 * 0 + (i 1).val % 128; omega
    · unfold outV
      congr 1
      exact Fin.ext (by show 0 = (i 1).val / 128; omega)
  · refine (View.read_writes_cons_unit_of_mem (Val := Elt F) oM.view f (inbX 1) (result x 1 c) [⟨rectX 0, result x 0 c⟩] i (fun a => match a with
      | ⟨0, _⟩ => ⟨(i 0).val, (i 0).isLt⟩
      | ⟨1, _⟩ => ⟨(i 1).val % 128, Nat.mod_lt _ (by decide)⟩) rfl ?_).trans ?_
    · intro a
      match a with
      | ⟨0, _⟩ => exact (Nat.zero_add _).symm
      | ⟨1, _⟩ => show (i 1).val = 128 * 1 + (i 1).val % 128; omega
    · unfold outV
      congr 1
      exact Fin.ext (by show 1 = (i 1).val / 128; omega)

/-! ## After the barrier -/

/-- The body after its barrier. -/
def restProg (d : Dev nD) : Prog (TpuEff nD τ sig (Elt F) Λ₀ .tc) PUnit := do
  let A ← openHalf xM sM (Memref.isWhole_whole _) rM (Memref.isWhole_whole _) cc0_scratch2 cc0_scratch3 d 0
  let B ← openHalf xM sM (Memref.isWhole_whole _) rM (Memref.isWhole_whole _) cc0_scratch2 cc0_scratch3 d 1
  let A ← tailAll sM (Memref.isWhole_whole _) rM (Memref.isWhole_whole _) cc0_scratch2 cc0_scratch3 d 0 0 1 11 A
  let B ← tailAll sM (Memref.isWhole_whole _) rM (Memref.isWhole_whole _) cc0_scratch2 cc0_scratch3 d 1 0 1 11 B
  let A ← passAll sM (Memref.isWhole_whole _) rM (Memref.isWhole_whole _) cc0_scratch2 cc0_scratch3 d 0 1 2 A
  let B ← passAll sM (Memref.isWhole_whole _) rM (Memref.isWhole_whole _) cc0_scratch2 cc0_scratch3 d 1 1 2 B
  let A ← tailAll sM (Memref.isWhole_whole _) rM (Memref.isWhole_whole _) cc0_scratch2 cc0_scratch3 d 0 2 3 12 A
  let B ← tailAll sM (Memref.isWhole_whole _) rM (Memref.isWhole_whole _) cc0_scratch2 cc0_scratch3 d 1 2 3 12 B
  let A ← passAll sM (Memref.isWhole_whole _) rM (Memref.isWhole_whole _) cc0_scratch2 cc0_scratch3 d 0 3 4 A
  let B ← passAll sM (Memref.isWhole_whole _) rM (Memref.isWhole_whole _) cc0_scratch2 cc0_scratch3 d 1 3 4 B
  let A ← passAll sM (Memref.isWhole_whole _) rM (Memref.isWhole_whole _) cc0_scratch2 cc0_scratch3 d 0 4 5 A
  let B ← passAll sM (Memref.isWhole_whole _) rM (Memref.isWhole_whole _) cc0_scratch2 cc0_scratch3 d 1 4 5 B
  closeHalf oM (Memref.isWhole_whole _) sM (Memref.isWhole_whole _) rM (Memref.isWhole_whole _) cc0_scratch2 cc0_scratch3 d 0 A
  closeHalf oM (Memref.isWhole_whole _) sM (Memref.isWhole_whole _) rM (Memref.isWhole_whole _) cc0_scratch2 cc0_scratch3 d 1 B

/-- The body is the barrier and the rest. -/
theorem bodyProg_eq : (bodyProg xM oM (Memref.isWhole_whole _) sM (Memref.isWhole_whole _) rM (Memref.isWhole_whole _) cc0_scratch2 cc0_scratch3
      : Prog (TpuEff nD τ sig (Elt F) Λ₀ .tc) PUnit) = (do
    let d : Dev nD ← Prog.lift .deviceId
    semSignalWord (nbr 0 d) barrier 1#32
    semSignalWord (nbr 1 d) barrier 1#32
    semSignalWord (nbr 2 d) barrier 1#32
    semWaitWord barrier 3#32
    restProg d) := rfl

/-- From nothing started to all finished and the result stored. -/
theorem rest_run (f : Buf (Elt F) (oM.view.loc (c : Thread nD τ))) :
    iprop((xPts x c ∗ oPts c f) ∗ St x K c 0 0) ⊢ run c (restProg c) (fun _ => iprop((xPts x c ∗ oPts c (outV x c)) ∗ St x K c 48 48)) := by
  unfold restProg
  refine run_bind_val _ (open_half x K c 0 0 rfl f) <|
    run_bind_val _ (open_half x K c 1 4 rfl f) <|
    run_bind_val _ (run_frame_val _ (tail_all x K c 0 1 11 0 8 0 rfl rfl rfl rfl _ rfl)) <|
    run_bind_val _ (run_frame_val _ (tail_all x K c 0 1 11 1 12 4 rfl rfl rfl rfl _ rfl)) <|
    run_bind_val _ (run_frame_val _ (pass_all x K c 1 2 0 16 8 rfl rfl rfl rfl _ rfl)) <|
    run_bind_val _ (run_frame_val _ (pass_all x K c 1 2 1 20 12 rfl rfl rfl rfl _ rfl)) <|
    run_bind_val _ (run_frame_val _ (tail_all x K c 2 3 12 0 24 16 rfl rfl rfl rfl _ rfl)) <|
    run_bind_val _ (run_frame_val _ (tail_all x K c 2 3 12 1 28 20 rfl rfl rfl rfl _ rfl)) <|
    run_bind_val _ (run_frame_val _ (pass_all x K c 3 4 0 32 24 rfl rfl rfl rfl _ rfl)) <|
    run_bind_val _ (run_frame_val _ (pass_all x K c 3 4 1 36 28 rfl rfl rfl rfl _ rfl)) <|
    run_bind_val _ (run_frame_val _ (pass_all x K c 4 5 0 40 32 rfl rfl rfl rfl _ rfl)) <|
    run_bind_val _ (run_frame_val _ (pass_all x K c 4 5 1 44 36 rfl rfl rfl rfl _ rfl)) <|
    run_bind (close_half x K c 0 40 rfl f _ rfl) fun _ => ?_
  rw [← write_out x c f]
  exact close_half x K c 1 44 rfl _ _ rfl

/-! ## The barrier -/

/-- A family over the positions, sorted by the bit across which they exchange. -/
theorem by_bits (Φ : Fin 3 → Fin 48 → sProp 𝕄) :
    (bigSep Finset.univ fun t => bigSep (Finset.univ.filter fun p => pt p = t) (Φ t)) = bigSep Finset.univ fun p => Φ (pt p) p := by
  rw [bigSep_congr fun t _ => BI.bigSep_filter Finset.univ (fun p => pt p = t) (Φ t), Pipeline.bigSep_univ_comm]
  refine bigSep_congr fun p _ => ?_
  rw [← BI.bigSep_filter Finset.univ (fun t => pt p = t) (fun t => Φ t p), Finset.filter_eq, if_pos (Finset.mem_univ _), bigSep_singleton]

/-- Before its barrier a device has all its own slots, sorted by the neighbour it hands them to. -/
theorem slots_out : (bigSep Finset.univ fun p => rAny (F := F) c p) = bigSep Finset.univ fun t => barPay (F := F) (nbr t c) t := by
  unfold barPay
  rw [by_bits fun t p => rAny (F := F) (nbr t (nbr t c)) p]
  exact bigSep_congr fun p _ => by rw [nbr_nbr]
/-- After it, its neighbours' slots for all positions. -/
theorem slots_in : (bigSep Finset.univ fun t => barPay (F := F) c t) = bigSep Finset.univ fun p => rAny (F := F) (other p c) p := by
  unfold barPay
  exact by_bits fun t p => rAny (F := F) (nbr t c) p

/-- The tokens of the transfers a device starts. -/
def duty (p : Fin 48) : sProp 𝕄 := iprop(dutyTok ER (sendCell c p) 0 0 ∗ dutyTok ER (recvCell (other p c) p) 0 0)

/-- What a device starts from, besides its buffers. -/
def begin : sProp 𝕄 :=
  iprop(records x K ∗ atPos ER (barCell c) 0 ∅ 0 ∗ (bigSep Finset.univ fun t : Fin 3 => dutyTok ER (barCell (nbr t c)) 0 t)
    ∗ (bigSep Finset.univ fun p => duty (F := F) c p) ∗ (bigSep Finset.univ fun p => pending (F := F) c p) ∗ cred (tallyAt (barCell c) () 3))

theorem regroup4 (A B C D : sProp 𝕄) : iprop((A ∗ B ∗ C) ∗ D) = iprop((A ∗ B) ∗ C ∗ D) := by
  have h1 : iprop((A ∗ B ∗ C) ∗ D) ⊢ iprop((A ∗ B) ∗ C ∗ D) := by
    iintro ⟨⟨H1, H2, H3⟩, H4⟩
    isplitl [H1 H2]; · isplitl [H1] <;> iassumption
    isplitl [H3] <;> iassumption
  have h2 : iprop((A ∗ B) ∗ C ∗ D) ⊢ iprop((A ∗ B ∗ C) ∗ D) := by
    iintro ⟨⟨H1, H2⟩, H3, H4⟩
    isplitr [H4]
    · isplitl [H1]; · iexact H1
      isplitl [H2] <;> iassumption
    iexact H4
  exact equiv_iff.mp ⟨h1, h2⟩

/-- Nothing started: tokens, the neighbours' slots, the credits and the own send buffer make the state. -/
theorem st_begin (W : Waits sig Unit) :
    iprop(records x K ∗ (bigSep Finset.univ fun p => duty (F := F) c p) ∗ (bigSep Finset.univ fun p => rAny (F := F) (other p c) p)
      ∗ (bigSep Finset.univ fun p => pending (F := F) c p) ∗ (bigSep Finset.univ fun q => sAny (F := F) c q) ∗ owes (c : Thread nD τ) (owedFrom c 0) W)
      ⊢ St x K c 0 0 := by
  unfold St
  rw [show (bigSep Finset.univ fun p => piece (F := F) c 0 0 p)
      = iprop((bigSep Finset.univ fun p => duty (F := F) c p) ∗ (bigSep Finset.univ fun p => rAny (F := F) (other p c) p) ∗ (bigSep Finset.univ fun p => pending (F := F) c p)) from by
    rw [← bigSep_sep', ← bigSep_sep']
    refine bigSep_congr fun p _ => ?_
    unfold piece fresh duty
    rw [if_pos (Nat.zero_le _), if_pos (Nat.zero_le _)]
    exact regroup4 _ _ _ _]
  rw [show (bigSep Finset.univ fun q => place (F := F) c 0 0 q) = bigSep Finset.univ fun q => sAny (F := F) c q from
    bigSep_congr fun q _ => by unfold place; rw [if_neg]; rintro ⟨n, h, -⟩; omega]
  iintro ⟨HR, Hd, Hr, Hp, Hs, HO⟩
  isplitl [HR]; · iexact HR
  isplitl [Hd Hr Hp]
  · isplitl [Hd]; · iexact Hd
    isplitl [Hr] <;> iassumption
  isplitl [Hs]; · iexact Hs
  iexists W; iexact HO

/-- All finished: the cells at zero, both buffers, nothing owed. -/
theorem st_end : St x K c 48 48 ⊢ iprop((bigSep Finset.univ fun p => finished (F := F) c p) ∗ (bigSep Finset.univ fun q => sAny (F := F) c q)
    ∗ ∃ W, owes (c : Thread nD τ) 0 W) := by
  unfold St
  rw [show (bigSep Finset.univ fun p => piece (F := F) c 48 48 p) = bigSep Finset.univ fun p => finished (F := F) c p from
    bigSep_congr fun p _ => by
      unfold piece
      rw [if_neg (by omega), if_neg (by omega), if_neg (by omega)]
      exact equiv_iff.mp BI.emp_sep]
  rw [show (bigSep Finset.univ fun q => place (F := F) c 48 48 q) = bigSep Finset.univ fun q => sAny (F := F) c q from
    bigSep_congr fun q _ => by unfold place; rw [if_neg]; rintro ⟨n, h, h', -⟩; omega]
  rw [owedFrom_end]
  iintro ⟨-, Hp, Hs, HO⟩
  isplitl [Hp]; · iexact Hp
  isplitl [Hs] <;> iassumption

/-- After the barrier: all cells at zero, all buffers back. -/
theorem rest_run' (f : Buf (Elt F) (oM.view.loc (c : Thread nD τ))) :
    iprop(semVal (barCell c) 0 ∗ (xPts x c ∗ oPts c f) ∗ St x K c 0 0) ⊢ run c (restProg c)
      (fun _ => iprop((xPts x c ∗ oPts c (outV x c)) ∗ (bigSep Finset.univ fun p => finished (F := F) c p) ∗ (bigSep Finset.univ fun q => sAny (F := F) c q)
          ∗ semVal (barCell c) 0 ∗ ∃ W, owes (c : Thread nD τ) 0 W)) := by
  have h := run_frame (R := semVal (barCell c) 0) (rest_run x K c f)
  unfold run at *
  refine h.trans (wp_mono _ _ _ fun _ => ?_)
  iintro ⟨Hz, Hxo, HS⟩
  ihave H := (st_end x K c) $$ HS
  icases H with ⟨Hp, Hs, HO⟩
  isplitl [Hxo]; · iexact Hxo
  isplitl [Hp]; · iexact Hp
  isplitl [Hs]; · iexact Hs
  isplitl [Hz] <;> iassumption

/-- The whole body. -/
theorem body_run (f : Buf (Elt F) (oM.view.loc (c : Thread nD τ))) (W : Waits sig Unit) :
    iprop(begin x K c ∗ (bigSep Finset.univ fun p => rAny (F := F) c p) ∗ (bigSep Finset.univ fun q => sAny (F := F) c q) ∗ owes (c : Thread nD τ) (O₀ c) W
        ∗ xPts x c ∗ oPts c f)
      ⊢ run c (bodyProg xM oM (Memref.isWhole_whole _) sM (Memref.isWhole_whole _) rM (Memref.isWhole_whole _) cc0_scratch2 cc0_scratch3)
        (fun _ => iprop((xPts x c ∗ oPts c (outV x c)) ∗ (bigSep Finset.univ fun p => finished (F := F) c p) ∗ (bigSep Finset.univ fun q => sAny (F := F) c q)
          ∗ semVal (barCell c) 0 ∗ ∃ W, owes (c : Thread nD τ) 0 W)) := by
  rw [bodyProg_eq]
  simp only [semSignalWord, semWaitWord, Prog.lift, Prog.bind_op, Prog.bind_ret, wp_deviceId]
  rw [slots_out, three]
  unfold begin
  rw [three]
  iintro ⟨⟨#HR, HatB, ⟨Ht0, Ht1, Ht2⟩, Hd, Hpd, Hc⟩, ⟨Hp0, Hp1, Hp2⟩, Hs, HO, Hx, Ho⟩
  iapply (Rounds.wp_signal 𝒱₀ ER (sched x) (c : Thread nD τ) none (dst := (nbr 0 c : Thread nD τ)) (κ := K (nbr 0 c, none))
      (d := 0) (by rw [duties_bar]; exact Finset.mem_univ _) ((amount_bar x (nbr 0 c) 0).trans (by decide)) () (O₁ c) rfl) $$ [HO Ht0 Hp0]
  · isplitr; · iapply (records_inv x K (nbr 0 c, none)); iexact HR
    isplitl [HO]; · iexact HO
    isplitl [Ht0]; · iexact Ht0
    isplitl [Hp0]; · rw [payload_bar]; iexact Hp0
    iapply (records_reached x K (nbr 0 c, none)); iexact HR
  iintro HO
  unfold O₁
  iapply (Rounds.wp_signal 𝒱₀ ER (sched x) (c : Thread nD τ) none (dst := (nbr 1 c : Thread nD τ)) (κ := K (nbr 1 c, none))
      (d := 1) (by rw [duties_bar]; exact Finset.mem_univ _) ((amount_bar x (nbr 1 c) 1).trans (by decide)) () (O₂ c) rfl) $$ [HO Ht1 Hp1]
  · isplitr; · iapply (records_inv x K (nbr 1 c, none)); iexact HR
    isplitl [HO]; · iexact HO
    isplitl [Ht1]; · iexact Ht1
    isplitl [Hp1]; · rw [payload_bar]; iexact Hp1
    iapply (records_reached x K (nbr 1 c, none)); iexact HR
  iintro HO
  unfold O₂
  iapply (Rounds.wp_signal 𝒱₀ ER (sched x) (c : Thread nD τ) none (dst := (nbr 2 c : Thread nD τ)) (κ := K (nbr 2 c, none))
      (d := 2) (by rw [duties_bar]; exact Finset.mem_univ _) ((amount_bar x (nbr 2 c) 2).trans (by decide)) () (owedFrom c 0) rfl) $$ [HO Ht2 Hp2]
  · isplitr; · iapply (records_inv x K (nbr 2 c, none)); iexact HR
    isplitl [HO]; · iexact HO
    isplitl [Ht2]; · iexact Ht2
    isplitl [Hp2]; · rw [payload_bar]; iexact Hp2
    iapply (records_reached x K (nbr 2 c, none)); iexact HR
  iintro HO
  iapply (Rounds.wp_wait_rest_token 𝒱₀ ER (sched x) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [Hc HO HatB]
  · isplitr; · iapply (records_inv x K (c, none)); iexact HR
    isplitl [Hc]; · iexact Hc
    isplitl [HO]; · iexact HO
    isplitr
    · iapply (mayWait_from (F := F) c (.reg barrier) 0 1 (by omega) (fun u => (lv_bar c u).le)); iapply (records_lev x K); iexact HR
    iexact HatB
  iintro ⟨HO, HatB, -, Hpay⟩
  ihave Hr := (Entails.of_eq ((rest_bar x c).trans (slots_in c))) $$ Hpay
  imod (Rounds.cell_close ER (sched x) (Set.mem_univ (K (c, none))) (fun h => h) (R := 0 + 1) (duties_later x (barCell c))) $$ [HatB] with HzB
  · isplitr; · iapply (records_inv x K (c, none)); iexact HR
    iexact HatB
  ihave HS := (st_begin x K c _) $$ [Hd Hr Hpd Hs HO]
  · isplitr; · iexact HR
    isplitl [Hd]; · iexact Hd
    isplitl [Hr]; · iexact Hr
    isplitl [Hpd]; · iexact Hpd
    isplitl [Hs]; · iexact Hs
    iexact HO
  iapply (rest_run' x K c f)
  isplitl [HzB]; · iexact HzB
  isplitl [Hx Ho]
  · isplitl [Hx] <;> iassumption
  iexact HS

end Cert.Sort

end
-- ==== Proof.Buffers.lean ====
/- The two scratch buffers of a device as the places of the body's transfers, and the rows of cells as sums over their names. -/
module

public import proofs.«01_k».proof.Proof.Whole

@[expose] public section

noncomputable section

namespace Cert.Sort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sums over names -/

/-- A sum over the cells of a device: the barrier's, then the others. -/
theorem bigSep_cells {α : Type} [Fintype α] [DecidableEq α] (Φ : Option α → sProp 𝕄) :
    bigSep Finset.univ Φ = iprop(Φ none ∗ bigSep Finset.univ fun k => Φ (some k)) := by
  rw [bigSep_univ_equiv (Equiv.optionEquivSumPUnit.{0} α).symm Φ, bigSep_univ_sum]
  rw [show (bigSep Finset.univ fun b : PUnit => Φ ((Equiv.optionEquivSumPUnit.{0} α).symm (.inr b))) = Φ none from by
    rw [show (Finset.univ : Finset PUnit) = {⟨⟩} from rfl, bigSep_singleton]; rfl]
  exact equiv_iff.mp ⟨BI.sep_comm, BI.sep_comm⟩
/-- A sum over the transfers' cells: the sending ones and the receiving ones. -/
theorem bigSep_ways (Φ : Bool × Fin 48 → sProp 𝕄) :
    bigSep Finset.univ Φ = iprop((bigSep Finset.univ fun p => Φ (false, p)) ∗ bigSep Finset.univ fun p => Φ (true, p)) := by
  rw [bigSep_univ_prod]
  exact bigSep_univ_eq_bigSepL [false, true] (by decide) (by decide) _

/-! ## A buffer cut into parts -/

/-- A buffer held whole at some contents is its parts, each held at some contents. -/
theorem parts_eq {T : Type} [Fintype T] [DecidableEq T] {ℓ : Loc nD τ sig} (K : T → Finset (Idx ℓ)) [Nonempty (Buf (Elt F) ℓ)]
    (hd : ∀ t t', t ≠ t' → Disjoint (K t) (K t')) (hc : ∀ i, ∃ t, i ∈ K t) :
    (iprop(∃ f : Buf (Elt F) ℓ, ℓ ↦{fullShare} f) : sProp 𝕄) = bigSep Finset.univ fun t => iprop(∃ f : Buf (Elt F) ℓ, ℓ ↦[K t]{fullShare} f) := by
  have hu : Finset.univ.biUnion K = (Finset.univ : Finset (Idx ℓ)) :=
    Finset.eq_univ_iff_forall.mpr fun i => by
      obtain ⟨t, ht⟩ := hc i
      exact Finset.mem_biUnion.mpr ⟨t, Finset.mem_univ t, ht⟩
  refine equiv_iff.mp ⟨?_, ?_⟩
  · show (iprop(∃ f : Buf (Elt F) ℓ, ℓ ↦{fullShare} f) : sProp 𝕄) ⊢ _
    iintro ⟨%f, H⟩
    rw [← hu]
    ihave H := (Entails.of_eq (pointsTo_biUnion Finset.univ K fun t _ t' _ h => hd t t' h)) $$ H
    have h1 : ∀ t, (ℓ ↦[K t]{fullShare} f : sProp 𝕄) ⊢ iprop(∃ f : Buf (Elt F) ℓ, ℓ ↦[K t]{fullShare} f) := fun t => by
      iintro H; iexists f; iexact H
    have h2 : (bigSep Finset.univ fun t => (ℓ ↦[K t]{fullShare} f : sProp 𝕄)) ⊢ bigSep Finset.univ fun t => iprop(∃ f : Buf (Elt F) ℓ, ℓ ↦[K t]{fullShare} f) :=
      bigSep_mono fun t _ => h1 t
    iapply h2
    iexact H
  · refine (BI.bigSep_exists_pi Finset.univ (fun t (f : Buf (Elt F) ℓ) => (ℓ ↦[K t]{fullShare} f : sProp 𝕄))).trans ?_
    show (iprop(∃ y : T → Buf (Elt F) ℓ, bigSep Finset.univ fun t => ℓ ↦[K t]{fullShare} y t) : sProp 𝕄) ⊢ _
    iintro ⟨%fs, H⟩
    ihave H := (pointsTo_biUnion_join Finset.univ K fs (Classical.choice inferInstance) fun t _ t' _ h => hd t t' h) $$ H
    icases H with ⟨%g, -, H⟩
    rw [hu]
    iexists g; iexact H

theorem mem_rectS (g : Fin 2) (h : Fin 4) (i : S2x4x256x128.Idx) :
    Iff (i ∈ (rectS g h).set) ((i 0).val = g.val ∧ (i 1).val = h.val) := by
  rw [Rect.mem_set_unit]
  have h2 : (i 2).val < 256 := (i 2).isLt
  have h3 : (i 3).val < 128 := (i 3).isLt
  constructor
  · intro H
    have a0 := H 0; have a1 := H 1
    dsimp at a0 a1
    omega
  · rintro ⟨e0, e1⟩ a
    fin_cases a <;> dsimp <;> omega

theorem mem_rectR (n : Fin 48) (i : S48x256x128.Idx) : Iff (i ∈ (rectR n).set) ((i 0).val = n.val) := by
  rw [Rect.mem_set_unit]
  have h1 : (i 1).val < 256 := (i 1).isLt
  have h2 : (i 2).val < 128 := (i 2).isLt
  constructor
  · intro H
    have a0 := H 0
    dsimp at a0
    omega
  · intro e0 a
    fin_cases a <;> dsimp <;> omega

theorem set_S (q : Fin 2 × Fin 4) : ((sM.access (rectS q.1 q.2)).set : Finset S2x4x256x128.Idx) = (rectS q.1 q.2).set := by
  show ((View.whole cc0_scratch0).slice (rectS q.1 q.2)).set = _
  rw [View.set_slice]; exact Finset.map_refl
theorem set_R (n : Fin 48) : ((rM.access (rectR n)).set : Finset S48x256x128.Idx) = (rectR n).set := by
  show ((View.whole cc0_scratch1).slice (rectR n)).set = _
  rw [View.set_slice]; exact Finset.map_refl

/-- A device's send buffer is its places. -/
theorem send_parts (c : Dev nD) :
    (iprop(∃ f : Buf (Elt F) ((c : Thread nD τ).loc cc0_scratch0), ((c : Thread nD τ).loc cc0_scratch0) ↦{fullShare} f) : sProp 𝕄)
      = bigSep Finset.univ fun q => sAny (F := F) c q :=
  parts_eq (ℓ := (c : Thread nD τ).loc cc0_scratch0) (fun q : Fin 2 × Fin 4 => (sM.access (rectS q.1 q.2)).set)
    (fun q q' hne => by
      rw [set_S, set_S]
      refine Finset.disjoint_left.mpr fun i h1 h2 => hne ?_
      have e1 := (mem_rectS q.1 q.2 i).mp h1
      have e2 := (mem_rectS q'.1 q'.2 i).mp h2
      exact Prod.ext (Fin.ext (e1.1.symm.trans e2.1)) (Fin.ext (e1.2.symm.trans e2.2)))
    (fun i => ⟨(⟨(i 0).val, (i 0).isLt⟩, ⟨(i 1).val, (i 1).isLt⟩), by rw [set_S]; exact (mem_rectS _ _ i).mpr ⟨rfl, rfl⟩⟩)

theorem pslot_posOf (n : Fin 48) : pslot (posOf n.val) = n := by revert n; decide +kernel

/-- A device's receive buffer is its slots. -/
theorem recv_parts (c : Dev nD) :
    (iprop(∃ f : Buf (Elt F) ((c : Thread nD τ).loc cc0_scratch1), ((c : Thread nD τ).loc cc0_scratch1) ↦{fullShare} f) : sProp 𝕄)
      = bigSep Finset.univ fun p => rAny (F := F) c p :=
  parts_eq (ℓ := (c : Thread nD τ).loc cc0_scratch1) (fun p : Fin 48 => (rM.access (rectR (pslot p))).set)
    (fun p p' hne => by
      rw [set_R, set_R]
      refine Finset.disjoint_left.mpr fun i h1 h2 => hne ?_
      have e1 := (mem_rectR _ i).mp h1
      have e2 := (mem_rectR _ i).mp h2
      rw [← posOf_pslot p, ← posOf_pslot p', ← e1, ← e2])
    (fun i => ⟨posOf (i 0).val, by rw [set_R, show pslot (posOf (i 0).val) = (i 0) from pslot_posOf (i 0)]; exact (mem_rectR _ i).mpr rfl⟩)

end Cert.Sort

end
-- ==== Proof.Launch.lean ====
/- The launch on the eight devices: the cells and tokens dealt, the credits, and the run of @main. -/
module

public import proofs.«01_k».proof.Proof.Buffers
public import proofs.«01_k».proof.Proof.BodyEq
public import Idealize.ShloMosaic.Lib.Pipeline.CollectiveSegs

@[expose] public section

noncomputable section

namespace Cert.Sort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state in which the devices start. -/
def s₀ : MemSt nD τ sig (Elt F) := ⟨m, fun _ => 0, ρ⟩

/-- The block that a device finds in its argument. -/
def xs (c : Dev nD) : Vec F S1024x256 .bf16 :=
  (win0_0.blk (0 : Fin 1)).view.read (Elt F) ((s₀ m ρ).mem ((c : Thread nD τ).loc main_arg0))

/-! ## What the launch deals -/

/-- The semaphores of the transfers. -/
abbrev osem (k : Bool × Fin 48) : SemLoc sig := csem (some k)

theorem ownSemFacts : Pipeline.OwnSemFacts cfg0.spec osem where
  isScoped := by decide +kernel
  inj := fun a b h => Option.some.inj (csem_injective h)
  disj := by
    rintro ⟨b, p⟩ w s h
    have h2 : ∀ w, ∀ s : Fin (cfg0.spec w).nbuf, ((cfg0.spec w).sem s).val < 2 := by decide +kernel
    have h2 := h2 w s
    cases b
    · have := congrArg Fin.val (SemLoc.dma.inj h); rw [sendVal] at this; omega
    · have := congrArg Fin.val (SemLoc.dma.inj h); rw [recvVal] at this; omega

def sortCells : Finset (GSem nD τ sig) := Finset.univ.map ⟨kcell, kcell_injective⟩

/-- The tokens of a device's cells: three of the barrier's, one of each of the others. -/
abbrev tokOf (ck : Dev nD × (Fin 3 ⊕ Bool × Fin 48)) : GSem nD τ sig × ℕ × Fin 3 := match ck.2 with
  | .inl t => (kcell (ck.1, none), 0, t)
  | .inr k => (kcell (ck.1, some k), 0, 0)
theorem tokOf_injective : Function.Injective tokOf := by
  rintro ⟨c, j⟩ ⟨c', j'⟩ h
  rcases j with t | k <;> rcases j' with t' | k'
  · have h1 := kcell_injective (congrArg Prod.fst h)
    have h2 : t = t' := congrArg (fun y : GSem nD τ sig × ℕ × Fin 3 => y.2.2) h
    have h3 : c = c' := congrArg Prod.fst h1
    rw [h2, h3]
  · have h1 := congrArg Prod.snd (kcell_injective (congrArg Prod.fst h)); exact absurd h1 (by simp)
  · have h1 := congrArg Prod.snd (kcell_injective (congrArg Prod.fst h)); exact absurd h1 (by simp)
  · have h1 := kcell_injective (congrArg Prod.fst h)
    have h2 : k = k' := Option.some.inj (congrArg Prod.snd h1)
    have h3 : c = c' := congrArg Prod.fst h1
    rw [h2, h3]
def sortToks : Finset (GSem nD τ sig × ℕ × Fin 3) := Finset.univ.map ⟨tokOf, tokOf_injective⟩

def u₀ : UU := (initOf (Pipeline.cells cfgs cellOf_inj) (Pipeline.launchToks cfgs cellOf_inj), initOf sortCells sortToks)

/-- The tokens of a device's own cells, -/
def toks (c : Dev nD) : sProp 𝕄 :=
  iprop((bigSep Finset.univ fun t : Fin 3 => dutyTok ER (barCell c) 0 t)
    ∗ (bigSep Finset.univ fun p => dutyTok ER (sendCell c p) 0 0) ∗ (bigSep Finset.univ fun p => dutyTok ER (recvCell c p) 0 0))
/-- and those it pays with. -/
def payToks (c : Dev nD) : sProp 𝕄 :=
  iprop((bigSep Finset.univ fun t : Fin 3 => dutyTok ER (barCell (nbr t c)) 0 t) ∗ (bigSep Finset.univ fun p => duty (F := F) c p))

variable (x : Dev nD → Vec F S1024x256 .bf16)

def G (c : Dev nD) : sProp 𝕄 :=
  iprop((bigSep Finset.univ fun k : Cell => roundState ER (sched x) (kcell (c, k)) 0)
    ∗ (bigSep Finset.univ fun k : Cell => iprop(atPos ER (kcell (c, k)) 0 ∅ 0 ∗ reached ER (kcell (c, k)) 0)) ∗ toks c)

/-- What every device knows of the cells. -/
def known (K : Dev nD × Cell → ℕ) : sProp 𝕄 :=
  iprop((bigSep Finset.univ fun ck : Dev nD × Cell => cellInv ER (sched x) (K ck) (kcell ck))
    ∗ bigSep Finset.univ fun ck : Dev nD × Cell => reached ER (kcell ck) 0)
instance known_persistent (K : Dev nD × Cell → ℕ) : BI.Persistent (known x K) := by unfold known; infer_instance

def own (c : Dev nD) : sProp 𝕄 := iprop((bigSep Finset.univ fun k : Cell => atPos ER (kcell (c, k)) 0 ∅ 0) ∗ payToks c)

def G' (c : Dev nD) : sProp 𝕄 := iprop(∃ K, known x K ∗ own c)

theorem fund_sort : BI.own (ER (initOf sortCells sortToks)) ⊢ (|==> bigSep Finset.univ (G x) : sProp 𝕄) := by
  have hX (Φ : GSem nD τ sig → sProp 𝕄) : bigSep sortCells Φ = bigSep Finset.univ fun c : Dev nD => bigSep Finset.univ fun k : Cell => Φ (kcell (c, k)) := by
    unfold sortCells; rw [bigSep_map, bigSep_univ_prod]; rfl
  have hT : bigSep sortToks (fun y => (dutyTok ER y.1 y.2.1 y.2.2 : sProp 𝕄)) = bigSep Finset.univ fun c : Dev nD => toks c := by
    unfold sortToks; rw [bigSep_map, bigSep_univ_prod]
    refine bigSep_congr fun c _ => ?_
    unfold toks
    rw [bigSep_univ_sum, bigSep_ways]; rfl
  iintro HX
  imod (Rounds.fund ER (sched x) sortCells sortToks) $$ HX with ⟨Hst, Hr, Hat, Htok⟩
  imodintro
  ihave Hst' := (Entails.of_eq (hX fun g => roundState ER (sched x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg barrier] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [unscopedSems0_eq, bigSep_cells]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k => iprop(∃ κ : ℕ, cellInv ER (sched x) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched x) (kcell (c, k)) 0)
      ⊢ (|={Set.univ}=> bigSep Finset.univ fun k => iprop(∃ κ : ℕ, cellInv ER (sched x) κ (kcell (c, k))) : sProp 𝕄) from by
        rw [← bigSep_sep']
        exact (bigSep_mono fun k _ => (Rounds.body_intro ER (sched x) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def across (t : Fin 3) : Dev nD ≃ Dev nD := ⟨nbr t, nbr t, nbr_nbr t, nbr_nbr t⟩

/-- Summed over all devices, what each holds for its neighbour is what each holds of its neighbour. -/
theorem dealt {T : Type} [Fintype T] (b : T → Fin 3) (Φ : T → Dev nD → sProp 𝕄) :
    (bigSep Finset.univ fun c : Dev nD => bigSep Finset.univ fun t => Φ t c) = bigSep Finset.univ fun c : Dev nD => bigSep Finset.univ fun t => Φ t (nbr (b t) c) := by
  rw [BI.bigSep_univ_comm, BI.bigSep_univ_comm (fun (c : Dev nD) t => Φ t (nbr (b t) c))]
  exact bigSep_congr fun t _ => bigSep_univ_equiv (across (b t)) (Φ t)

theorem toks_around : (bigSep Finset.univ fun c : Dev nD => (toks c : sProp 𝕄)) = bigSep Finset.univ fun c : Dev nD => payToks (F := F) c := by
  unfold toks payToks
  rw [bigSep_sep', bigSep_sep', bigSep_sep',
    dealt (fun t => t) (fun t c => (dutyTok ER (barCell c) 0 t : sProp 𝕄)), dealt pt (fun p c => (dutyTok ER (recvCell c p) 0 0 : sProp 𝕄)),
    ← bigSep_sep' _ (fun c : Dev nD => bigSep Finset.univ fun p => (dutyTok ER (sendCell c p) 0 0 : sProp 𝕄))]
  congr 1
  refine bigSep_congr fun c _ => ?_
  rw [← bigSep_sep']; rfl

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem own_intro (K : Dev nD × Cell → ℕ) (c : Dev nD) : iprop(known x K ∗ own c) ⊢ G' x c := by
  unfold G'
  iintro H
  iexists K; iexact H

theorem regroup :
    (bigSep Finset.univ fun c : Dev nD => iprop((bigSep Finset.univ fun k => iprop(∃ κ : ℕ, cellInv ER (sched x) κ (kcell (c, k))))
          ∗ (bigSep Finset.univ fun k => iprop(atPos ER (kcell (c, k)) 0 ∅ 0 ∗ reached ER (kcell (c, k)) 0)) ∗ toks c) : sProp 𝕄)
      ⊢ bigSep Finset.univ (G' x) := by
  rw [bigSep_sep', bigSep_sep', ← bigSep_univ_prod (fun ck : Dev nD × Cell => iprop(∃ κ : ℕ, cellInv ER (sched x) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄)), toks_around]
  iintro ⟨HI, ⟨Hat, #HR⟩, Htok⟩
  ihave HK := (BI.bigSep_exists_pi Finset.univ (fun (ck : Dev nD × Cell) (κ : ℕ) => (cellInv ER (sched x) κ (kcell ck) : sProp 𝕄))) $$ HI
  icases HK with ⟨%K, #HI⟩
  iapply (with_known (R := known x K) fun c _ => own_intro x K c)
  isplitr
  · unfold known; isplitl; · iexact HI
    iexact HR
  · unfold own
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

/-! ## The credits -/

theorem bar_iff {a b : Dev nD} : Iff (barCell a = barCell b) (a = b) :=
  ⟨fun h => congrArg Prod.fst (kcell_injective (a₁ := (a, none)) (a₂ := (b, none)) h), fun h => h ▸ rfl⟩
theorem recv_iff {a b : Dev nD} {p q : Fin 48} : Iff (recvCell a p = recvCell b q) (a = b ∧ p = q) := by
  constructor
  · intro h
    have := kcell_injective (a₁ := (a, some (true, p))) (a₂ := (b, some (true, q))) h
    simp only [Prod.mk.injEq, Option.some.injEq, true_and] at this
    exact this
  · rintro ⟨rfl, rfl⟩; rfl
theorem recv_ne_bar {a b : Dev nD} {p : Fin 48} : recvCell a p ≠ barCell b := fun h => by
  have := congrArg Prod.snd (kcell_injective (a₁ := (a, some (true, p))) (a₂ := (b, none)) h)
  exact absurd this (by simp)

theorem bar_at (t : Fin 3) (d c : Dev nD) : tallyAt (barCell (nbr t d)) () 1 (barCell c) () = if d = nbr t c then 1 else 0 := by
  rw [tallyAt_apply]
  by_cases h : d = nbr t c
  · subst h; rw [nbr_nbr, if_pos ⟨rfl, rfl⟩, if_pos rfl]
  · rw [if_neg (fun ⟨h1, _⟩ => h (by rw [← nbr_nbr t d]; exact congrArg (nbr t) (bar_iff.mp h1).symm)), if_neg h]

theorem owed_bar (d c : Dev nD) :
    O₀ d (barCell c) () = (if d = nbr 2 c then 1 else 0) + (if d = nbr 1 c then 1 else 0) + (if d = nbr 0 c then 1 else 0) := by
  have h0 : owedFrom d 0 (barCell c) () = 0 := by
    by_contra h
    obtain ⟨p, -, hp⟩ := owedFrom_pos (Nat.pos_of_ne_zero h)
    exact recv_ne_bar hp.symm
  unfold O₀ O₁ O₂
  rw [Pi.add_apply, Finsupp.add_apply, Pi.add_apply, Finsupp.add_apply, Pi.add_apply, Finsupp.add_apply, h0, bar_at, bar_at, bar_at, Nat.zero_add]

theorem owed_recv (d c : Dev nD) (p : Fin 48) : O₀ d (recvCell c p) () = if d = other p c then N else 0 := by
  unfold O₀ O₁ O₂
  rw [Pi.add_apply, Finsupp.add_apply, Pi.add_apply, Finsupp.add_apply, Pi.add_apply, Finsupp.add_apply,
    tallyAt_ne_cell recv_ne_bar, tallyAt_ne_cell recv_ne_bar, tallyAt_ne_cell recv_ne_bar, Finsupp.zero_apply, Nat.add_zero, Nat.add_zero, Nat.add_zero, owedFrom_apply]
  rw [Finset.sum_eq_single p]
  · rw [if_pos (Nat.zero_le _), tallyAt_apply]
    by_cases h : d = other p c
    · subst h; rw [if_pos ⟨recv_iff.mpr ⟨(nbr_nbr _ _).symm, rfl⟩, rfl⟩, if_pos rfl]
    · rw [if_neg (fun ⟨h1, _⟩ => h (by rw [← nbr_nbr (pt p) d]; exact congrArg (nbr (pt p)) (recv_iff.mp h1).1.symm)), if_neg h]
  · intro q _ hq
    rw [if_pos (Nat.zero_le _), tallyAt_apply, if_neg (fun ⟨h1, _⟩ => hq (recv_iff.mp h1).2.symm)]
  · intro h; exact absurd (Finset.mem_univ p) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nbr 2 c) fun _ => 1, Finset.sum_ite_eq' Finset.univ (nbr 1 c) fun _ => 1, Finset.sum_ite_eq' Finset.univ (nbr 0 c) fun _ => 1,
    if_pos (Finset.mem_univ _), if_pos (Finset.mem_univ _), if_pos (Finset.mem_univ _)]

theorem launch_recv (c : Dev nD) (p : Fin 48) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p, Finset.sum_ite_eq' Finset.univ (other p c) fun _ => N,
    if_pos (Finset.mem_univ _)]

theorem creds (c : Dev nD) :
    (Pipeline.launchCred O₀ c : sProp 𝕄) ⊢ iprop(cred (tallyAt (barCell c) () 3) ∗ bigSep Finset.univ fun p => cred (tallyAt (recvCell c p) () N)) := by
  have h : (Pipeline.launchCred O₀ c : sProp 𝕄)
      ⊢ bigSep (Finset.univ.map ⟨csem, csem_injective⟩) fun sm : SemLoc sig => cred (tallyOn ((c : Thread nD τ), sm) (launchCredit (Pipeline.owing O₀) 0 ((c : Thread nD τ), sm))) := by
    unfold Pipeline.launchCred
    exact bigSep_subset (Finset.subset_univ _)
  refine h.trans ?_
  rw [bigSep_map, bigSep_cells, bigSep_ways]
  refine BI.sep_mono (Entails.of_eq (congrArg cred (launch_bar c))) ?_
  have h2 : (bigSep Finset.univ fun p => (cred (tallyOn (recvCell c p) (launchCredit (Pipeline.owing O₀) 0 (recvCell c p))) : sProp 𝕄))
      = bigSep Finset.univ fun p => cred (tallyAt (recvCell c p) () N) := bigSep_congr fun p _ => congrArg cred (launch_recv c p)
  have h3 (A : sProp 𝕄) : iprop(A ∗ bigSep Finset.univ fun p => (cred (tallyOn (recvCell c p) (launchCredit (Pipeline.owing O₀) 0 (recvCell c p))) : sProp 𝕄))
      ⊢ bigSep Finset.univ fun p => cred (tallyAt (recvCell c p) () N) := by
    rw [h2]
    iintro ⟨-, H⟩
    iexact H
  exact h3 _

/-! ## The data of the launch -/

/-- What the body starts from, besides its buffers. -/
def start (c : Dev nD) : sProp 𝕄 := iprop(∃ K, begin (xs m ρ) K c)

/-- Before the body: that and both scratch buffers; -/
def Φ₀ (c : Dev nD) : sProp 𝕄 :=
  iprop(start m ρ c ∗ (bigSep Finset.univ fun q => sAny (F := F) c q) ∗ bigSep Finset.univ fun p => rAny (F := F) c p)
/-- after it: every cell at zero and both scratch buffers. -/
def Φ₁ (c : Dev nD) : sProp 𝕄 :=
  iprop((bigSep Finset.univ fun p => finished (F := F) c p) ∗ (bigSep Finset.univ fun q => sAny (F := F) c q) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outV (xs m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem only_t₀ (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [only_t₀ t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ (F := F) c ∗ (dats m ρ 0 c).owesAt () t₀.succ ∗ stg c cc0_stg0_0 (xs m ρ c) ∗ stg c cc0_stg1_0 (outV (xs m ρ) c))

theorem wp_post (c : Dev nD) {α : Type} (p : Prog (TpuEff nD τ sig (Elt F) Λ₀ .tc) α) (Q R : α → sProp 𝕄) (h : ∀ a, Q a ⊢ R a) : run c p Q ⊢ run c p R :=
  wp_mono _ _ _ h

/-- The body's run from what the library hands it. -/
theorem pre_run (c : Dev nD) :
    bodyPre m ρ c ⊢ run c (bodyProg xM oM (Memref.isWhole_whole _) sM (Memref.isWhole_whole _) rM (Memref.isWhole_whole _) cc0_scratch2 cc0_scratch3)
      (fun _ => iprop((xPts (xs m ρ) c ∗ oPts c (outV (xs m ρ) c)) ∗ (bigSep Finset.univ fun p => finished (F := F) c p) ∗ (bigSep Finset.univ fun q => sAny (F := F) c q)
        ∗ semVal (barCell c) 0 ∗ ∃ W, owes (c : Thread nD τ) 0 W)) := by
  unfold bodyPre Φ₀ start Dat.owesAt Pipeline.owesWithin
  rw [show (dats m ρ 0 c).owed t₀.castSucc = O₀ c from rfl]
  iintro ⟨⟨⟨%K, HB⟩, Hs, Hr⟩, ⟨%W, %hW, HO⟩, ⟨%d0, %f0, %e0, Hx⟩, ⟨%d1, %f1, %e1, Ho⟩⟩
  have ex : f0 = xs m ρ c := e0.trans (by unfold Dat.before; rw [if_pos (fetch_0 t₀)]; rfl)
  subst ex
  iapply (body_run (xs m ρ) K c f1 W)
  isplitl [HB]; · iexact HB
  isplitl [Hr]; · iexact Hr
  isplitl [Hs]; · iexact Hs
  isplitl [HO]; · iexact HO
  isplitl [Hx]; · unfold xPts; iexact Hx
  unfold oPts; iexact Ho

/-- The body's run in the library's terms. -/
theorem sound_body (c : Dev nD) :
    bodyPre m ρ c ⊢ run c (bodyProg xM oM (Memref.isWhole_whole _) sM (Memref.isWhole_whole _) rM (Memref.isWhole_whole _) cc0_scratch2 cc0_scratch3)
      (fun _ => bodyPost m ρ c) := by
  have hpost : ∀ _ : PUnit, iprop((xPts (xs m ρ) c ∗ oPts c (outV (xs m ρ) c)) ∗ (bigSep Finset.univ fun p => finished (F := F) c p) ∗ (bigSep Finset.univ fun q => sAny (F := F) c q)
      ∗ semVal (barCell c) 0 ∗ ∃ W, owes (c : Thread nD τ) 0 W) ⊢ bodyPost m ρ c := fun _ => by
    unfold bodyPost Φ₁ Dat.owesAt Pipeline.owesWithin xPts oPts
    rw [show (dats m ρ 0 c).owed t₀.succ = 0 from rfl]
    iintro ⟨⟨Hx, Ho⟩, Hf, Hs, HB, ⟨%W, HO⟩⟩
    isplitl [Hf Hs HB]
    · isplitl [Hf]; · iexact Hf
      isplitl [Hs] <;> iassumption
    isplitl [HO]
    · iexists W
      isplitr; · ipureintro; exact fun _ _ => Or.inl trivial
      iexact HO
    isplitl [Hx]
    · iexists _; isplitr; · (ipureintro; rfl)
      iexact Hx
    iexists _; isplitr; · (ipureintro; rfl)
    iexact Ho
  exact BI.Entails.trans (pre_run m ρ c) (wp_post c _ _ _ hpost)

set_option maxRecDepth 20000 in
theorem body_obligation (c : Dev nD) : BodyObligation (dats (F := F) m ρ 0 c) (defs₀ (F := F)) 𝒱₀ () Set.univ := fun t => by
  rw [only_t₀ t]
  rw [bigSep_W0, bigSep_W0]
  simp only [owns_whole_eq]
  show bodyPre m ρ c ⊢ run c
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  rw [body_eq]
  exact sound_body m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m ρ) c)
      ⊢ |={Set.univ}=> iprop(start m ρ c ∗ emp) := by
  unfold start G' own begin known records payToks pending
  rw [bigSep_cells, bigSep_ways]
  iintro ⟨-, #Hlev, Hcr, -, ⟨%K, ⟨#HI, #HR⟩, ⟨HaB, HaS, HaV⟩, HtB, HtD⟩⟩
  ihave Hc := (creds (F := F) c) $$ Hcr
  icases Hc with ⟨HcB, HcV⟩
  imodintro
  isplitl
  · iexists K
    isplitr
    · isplitr; · iexact HI
      isplitr; · iexact HR
      iexact Hlev
    isplitl [HaB]; · iexact HaB
    isplitl [HtB]; · iexact HtB
    isplitl [HtD]; · iexact HtD
    isplitr [HcB]
    · simp only [bigSep_sep']
      isplitl [HcV]; · iexact HcV
      isplitl [HaS] <;> iassumption
    iexact HcB
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq, send_parts, recv_parts]
  unfold Φ₀
  iintro ⟨Hs, -, H0, H1⟩
  isplitl [Hs]; · iexact Hs
  isplitl [H0] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq, send_parts, recv_parts]
  unfold Φ₁ finished Pipeline.ownSems0
  rw [bigSep_ways]
  simp only [bigSep_sep']
  iintro ⟨⟨HzS, HzV, Hr⟩, Hs, HzB⟩
  isplitl [HzB]; · iexact HzB
  isplitl [HzS HzV]
  · isplitl [HzS] <;> iassumption
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- Eight devices, any float values, any memory, all counters at zero: every fair execution of @main ends, each array then
    holds `finalA` and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m ρ)) (G' := G' (xs m ρ)) (u₀ := u₀)
    (hu₀ := by
      unfold u₀
      iintro Hu
      ihave H := (ownU_pair _ _) $$ Hu
      icases H with ⟨HP, HX⟩
      imod (fund_sort (xs m ρ)) $$ HX with HG
      imodintro
      isplitl [HP] <;> iassumption)
    (hglob := glob (xs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is as before. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Sort

end
-- ==== Proof.Bitonic.lean ====
/- The compare-exchange steps of the bitonic sort, on functions of a row number, and that the whole network sorts. -/
module

public import Idealize.ShloMosaic.Lib.SortNet.Sorts

@[expose] public section

namespace Cert.Sort

open Idealize.ShloMosaic.SortNet

variable {α : Type*} [LinearOrder α]

/-- The row that row `i` is compared with at the distance `2 ^ j`. -/
def pairRow (j i : ℕ) : ℕ := if i / 2 ^ j % 2 = 0 then i + 2 ^ j else i - 2 ^ j

/-- One step at the distance `2 ^ j`: a row keeps the smaller of its entry and its partner's exactly where the bits
    `j` and `k` of its number agree, otherwise the larger. -/
def cmpStep (k j : ℕ) (V : ℕ → α) (i : ℕ) : α :=
  if i / 2 ^ j % 2 = i / 2 ^ k % 2 then min (V i) (V (pairRow j i)) else max (V i) (V (pairRow j i))

/-- The steps at the distances `2 ^ (n-1), …, 2, 1`. -/
def cmpSteps (k : ℕ) : ℕ → (ℕ → α) → ℕ → α
  | 0, V => V
  | n + 1, V => cmpSteps k n (cmpStep k n V)

/-- The phases `1, …, n`, each with its steps from the longest distance to the shortest. -/
def phases : ℕ → (ℕ → α) → ℕ → α
  | 0, V => V
  | n + 1, V => cmpSteps (n + 1) (n + 1) (phases n V)

/-- Clear in the word is even in the quotient. -/
theorem clear_iff (i s : ℕ) : i &&& 2 ^ s = 0 ↔ i / 2 ^ s % 2 = 0 := by
  rw [and_two_pow_eq_zero_iff_testBit, Nat.testBit_eq_decide_div_mod_eq, decide_eq_false_iff_not]
  have := Nat.mod_two_eq_zero_or_one (i / 2 ^ s)
  omega

/-- The partner's bits above the distance are the row's own. -/
theorem above_add {i s k : ℕ} (hs : s < k) (hi : i / 2 ^ s % 2 = 0) : (i + 2 ^ s) / 2 ^ k = i / 2 ^ k := by
  obtain ⟨m, rfl⟩ : ∃ m, k = s + (m + 1) := ⟨k - s - 1, by omega⟩
  rw [Nat.pow_add, ← Nat.div_div_eq_div_mul, ← Nat.div_div_eq_div_mul, Nat.add_div_right _ (Nat.two_pow_pos s), Nat.pow_succ', ← Nat.div_div_eq_div_mul, ← Nat.div_div_eq_div_mul]
  congr 1
  omega

/-- A stage of the network is the step, at every row. -/
theorem apply_stage_eq {p s k : ℕ} (hs : s < p) (hk : s < k) (V : ℕ → α) :
    Network.apply (stage p s fun i => (decide (i.val &&& 2 ^ k = 0)) == false) (fun i => V i.val) = fun i => cmpStep k s V i.val := by
  have low : ∀ i : Fin (2 ^ p), i.val / 2 ^ s % 2 = 0 → pairRow s i.val = (partner p s i).val := fun i hi => by
    rw [pairRow, if_pos hi, partner_val_of_clear hs i ((clear_iff _ _).mpr hi)]
  have dir : ∀ i : Fin (2 ^ p), ((decide (i.val &&& 2 ^ k = 0)) == false) = decide (i.val / 2 ^ k % 2 = 1) := fun i => by
    have h : decide (i.val &&& 2 ^ k = 0) = decide (i.val / 2 ^ k % 2 = 0) := decide_eq_decide.mpr (clear_iff i.val k)
    rw [h]
    rcases Nat.mod_two_eq_zero_or_one (i.val / 2 ^ k) with h | h <;> simp [h]
  funext i
  rcases Nat.mod_two_eq_zero_or_one (i.val / 2 ^ s) with hi | hi
  · have h := (apply_stage hs (fun i : Fin (2 ^ p) => (decide (i.val &&& 2 ^ k = 0)) == false) (fun i => V i.val) i ((clear_iff _ _).mpr hi)).1
    rw [h, dir, cmpStep, hi, low i hi]
    rcases Nat.mod_two_eq_zero_or_one (i.val / 2 ^ k) with h | h <;> simp [h]
  · have hn : i.val &&& 2 ^ s ≠ 0 := fun h => by have := (clear_iff _ _).mp h; omega
    have hc := partner_and_of_set hs i hn
    have h := (apply_stage hs (fun i : Fin (2 ^ p) => (decide (i.val &&& 2 ^ k = 0)) == false) (fun i => V i.val) (partner p s i) hc).2
    have hv := partner_val_of_set hs i hn
    have hb : (partner p s i).val / 2 ^ k = i.val / 2 ^ k := by
      rw [← above_add hk ((clear_iff _ _).mp hc), hv.2, Nat.sub_add_cancel hv.1]
    rw [partner_partner hs] at h
    have ha : pairRow s i.val = (partner p s i).val := by rw [pairRow, if_neg (by omega), hv.2]
    rw [h, dir, hb, cmpStep, hi, ha, min_comm (V i.val), max_comm (V i.val)]
    rcases Nat.mod_two_eq_zero_or_one (i.val / 2 ^ k) with h | h <;> simp [h]

/-- The stages of one phase are its steps. -/
theorem apply_phase {p k : ℕ} (n : ℕ) (hn : n ≤ p) (hk : n ≤ k) (V : ℕ → α) :
    Network.apply ((List.range n).reverse.flatMap fun s => stage p s fun i => (decide (i.val &&& 2 ^ k = 0)) == false) (fun i => V i.val)
      = fun i => cmpSteps k n V i.val := by
  induction n generalizing V with
  | zero => rfl
  | succ n ih =>
    rw [List.range_succ, List.reverse_append, List.reverse_singleton, List.singleton_append, List.flatMap_cons, Network.apply_append,
      apply_stage_eq (by omega) (by omega) V, ih (by omega) (by omega)]
    rfl

/-- The first levels of the network are the phases. -/
theorem apply_levels {p : ℕ} (n : ℕ) (hn : n ≤ p) (V : ℕ → α) :
    Network.apply ((List.range n).flatMap fun l => (List.range (l + 1)).reverse.flatMap fun s =>
      stage p s fun i => (decide (i.val &&& 2 ^ (l + 1) = 0)) == false) (fun i => V i.val) = fun i => phases n V i.val := by
  induction n with
  | zero => rfl
  | succ n ih =>
    rw [List.range_succ, List.flatMap_append, List.flatMap_cons, List.flatMap_nil, List.append_nil, Network.apply_append, ih (by omega),
      apply_phase (n + 1) hn le_rfl]
    rfl

/-- The whole network sorts: its result ascends and is a rearrangement of what it was given. -/
theorem phases_sorted (p : ℕ) (V : ℕ → α) :
    (Monotone fun i : Fin (2 ^ p) => phases p V i.val)
      ∧ ∃ σ : Equiv.Perm (Fin (2 ^ p)), (fun i : Fin (2 ^ p) => phases p V i.val) = (fun i : Fin (2 ^ p) => V i.val) ∘ σ := by
  have h : Network.apply (sortNet p false) (fun i => V i.val) = fun i => phases p V i.val := apply_levels p le_rfl V
  rw [← h]
  exact ⟨sortNet_apply_monotone p _, Network.exists_perm _ _⟩

end Cert.Sort
-- ==== Proof.Read.lean ====
/- One column of a block, read row by row: a stage of the kernel on the block is a compare-exchange step on the rows. -/
module

public import proofs.«01_k».proof.Proof.Bitonic
public import proofs.«01_k».proof.Proof.Net
public import Idealize.ShloMosaic.Lib.ValueLayout
public import Idealize.ShloMosaic.Lib.ValueIdx
public import Idealize.ShloMosaic.Lib.Pointwise.Reshape
public import Mathlib.Tactic.IntervalCases

@[expose] public section

noncomputable section

namespace Cert.Sort

open Idealize.ShloMosaic hiding ix2 ix3 ix4
open Idealize.ShloMosaic.ValueIdx Cert.KernelIdeal Cert.KernelIdeal.Gen

/-- Column `q` of the block `v` of the device `d` is `V` at the numbers of the device's rows. -/
def Reads (q : Fin 128) (d : ℕ) (v : FVec Ideal (Rows 1024) .bf16) (V : ℕ → EReal) : Prop :=
  ∀ r : Fin 1024, v (ix2 r q) = V (1024 * d + r.val)

/-! ## Bits -/

/-- The test of a bit of a word that holds a number. -/
theorem word_clear {x k : ℕ} (hx : x < 2 ^ 32) (hk : k < 32) :
    IntOp.cmpi .eq (IntOp.andi (BitVec.ofNat 32 x) (BitVec.ofNat 32 (2 ^ k))) 0#32 = BitVec.ofBool (decide (x / 2 ^ k % 2 = 0)) := by
  have hp : 2 ^ k < 2 ^ 32 := Nat.pow_lt_pow_right (by decide) hk
  show BitVec.ofBool ((BitVec.ofNat 32 x &&& BitVec.ofNat 32 (2 ^ k)) == 0#32) = _
  congr 1
  rw [Bool.eq_iff_iff, beq_iff_eq, decide_eq_true_eq, ← clear_iff, ← BitVec.toNat_inj, BitVec.toNat_and, BitVec.toNat_ofNat,
    BitVec.toNat_ofNat, Nat.mod_eq_of_lt hx, Nat.mod_eq_of_lt hp]
  rfl

/-- The selection by a decided bit. -/
theorem select_bit {β : Type} (b : Bool) (x y : β) : Scalar.select (BitVec.ofBool b) x y = if b then x else y := by
  cases b <;> rfl

/-- Two bits agree. -/
theorem agree_bit (a b : Bool) : IntOp.xori (IntOp.xori (BitVec.ofBool a) (BitVec.ofBool b)) 1#1 = BitVec.ofBool (a == b) := by
  cases a <;> cases b <;> rfl

/-- Two remainders modulo two are equal when they are zero together. -/
theorem agree_mod (a b : ℕ) : (decide (a % 2 = 0) == decide (b % 2 = 0)) = decide (a % 2 = b % 2) := by
  rcases Nat.mod_two_eq_zero_or_one a with h | h <;> rcases Nat.mod_two_eq_zero_or_one b with h' | h' <;> simp [h, h']

/-- A row with the bit clear has its partner in the block. -/
theorem fits_up {d r j : ℕ} (hj : j < 10) (hr : r < 1024) (h : (1024 * d + r) / 2 ^ j % 2 = 0) : r + 2 ^ j < 1024 := by
  interval_cases j <;> norm_num at h ⊢ <;> omega

/-- A row with the bit set has its partner in the block. -/
theorem fits_down {d r j : ℕ} (hj : j < 10) (hr : r < 1024) (h : ¬ (1024 * d + r) / 2 ^ j % 2 = 0) : 2 ^ j ≤ r := by
  interval_cases j <;> norm_num at h ⊢ <;> omega

/-- `rowBit` at a row. -/
theorem rowBit_read (hi : (Rows 1024).Iotas .tc 32 [0]) {d k s : ℕ} (hs : s = 2 ^ k) (hk : k < 32) (hd : d < 8) (r : Fin 1024) (q : Fin 128) :
    rowBit hi s (BitVec.ofNat 32 (1024 * d)) (ix2 r q) = BitVec.ofBool (decide ((1024 * d + r.val) / 2 ^ k % 2 = 0)) := by
  subst hs
  have hx : 1024 * d + r.val < 2 ^ 32 := by have := r.isLt; omega
  rw [← word_clear hx hk]
  show IntOp.cmpi .eq (IntOp.andi (BitVec.ofNat 32 (0 * 1024 + r.val) + BitVec.ofNat 32 (1024 * d)) _) _ = _
  rw [← BitVec.ofNat_add, Nat.zero_mul, Nat.zero_add, Nat.add_comm]
  rfl

/-! ## A stage at a short distance -/

theorem lowPartner_read {s j d : ℕ} (h : LowOK s) (hs : s = 2 ^ j) (hj : j < 10) (hd : d < 8) {q : Fin 128}
    {v : FVec Ideal (Rows 1024) .bf16} {V : ℕ → EReal} (hv : Reads q d v V) (r : Fin 1024) :
    lowPartner h (BitVec.ofNat 32 (1024 * d)) v (ix2 r q) = V (pairRow j (1024 * d + r.val)) := by
  unfold lowPartner pairRow
  rw [select_apply, rowBit_read h.iota hs (by omega) hd, select_bit]
  have hr := r.isLt
  by_cases hb : (1024 * d + r.val) / 2 ^ j % 2 = 0
  · have hf := fits_up hj hr hb
    rw [if_pos (decide_eq_true hb), if_pos hb]
    rw [concatenate_pair_apply_left 0 _ _ h.dCat (ix2 r q) rfl (ix2 (⟨r.val, by omega⟩ : Fin (1024 - s)) q)
      (fun b => by match b with | ⟨0, _⟩ => rfl | ⟨1, _⟩ => rfl)]
    rw [slice2_axis0_apply s v h.dHi _ q ⟨s + r.val, by omega⟩ rfl, hv]
    congr 1
    simp only [hs]; omega
  · have hf := fits_down hj hr hb
    rw [if_neg (by simpa using hb), if_neg hb]
    rw [concatenate_pair_apply_right 0 _ _ h.uCat (ix2 r q) rfl rfl (ix2 (⟨r.val - s, by omega⟩ : Fin (1024 - s)) q)
      (fun b hb => by match b with | ⟨0, _⟩ => exact absurd rfl hb | ⟨1, _⟩ => rfl) (by show r.val - s + s = r.val; omega)]
    rw [slice2_axis0_apply 0 v h.uLo _ q ⟨r.val - s, by omega⟩ (by simp), hv]
    congr 1
    simp only [hs]; omega

/-- A stage at a short distance is a step. -/
theorem lowStep_read {s j k blk d : ℕ} (h : LowOK s) (hs : s = 2 ^ j) (hj : j < 10) (hk : k < 32) (hb : blk = 2 ^ k) (hd : d < 8)
    {q : Fin 128} {v : FVec Ideal (Rows 1024) .bf16} {V : ℕ → EReal} (hv : Reads q d v V) :
    Reads q d (lowStep h blk (BitVec.ofNat 32 (1024 * d)) v) (cmpStep k j V) := by
  intro r
  unfold lowStep cmpStep
  rw [select_apply]
  have hm : xori (xori (rowBit h.iota s (BitVec.ofNat 32 (1024 * d))) (rowBit h.iota blk (BitVec.ofNat 32 (1024 * d))))
      (constantI (Rows 1024) 1 1#1) (ix2 r q)
        = BitVec.ofBool (decide ((1024 * d + r.val) / 2 ^ j % 2 = (1024 * d + r.val) / 2 ^ k % 2)) := by
    show IntOp.xori (IntOp.xori (rowBit h.iota s _ (ix2 r q)) (rowBit h.iota blk _ (ix2 r q))) 1#1 = _
    rw [rowBit_read h.iota hs (by omega) hd, rowBit_read h.iota hb hk hd, agree_bit, agree_mod]
  rw [hm, select_bit, minimumf_apply, maximumf_apply, lowPartner_read h hs hj hd hv, hv]
  simp only [decide_eq_true_eq]

/-! ## A stage at a long distance -/

section High

variable {β : Type} {n s : ℕ}

/-- The cut block, read. -/
theorem cut_read (h : (Rows 1024).ShapeCasts (Pairs n s)) (v : (Rows 1024).Idx → β) (a : Fin n) (b : Fin 2) (c : Fin s) (q : Fin 128)
    (r : Fin 1024) (hr : r.val = (a.val * 2 + b.val) * s + c.val) : shapeCast (Pairs n s) v h (ix4 a b c q) = v (ix2 r q) := by
  refine congrArg v (Shape.reshapeEquiv_eq_of_vals h _ _ _ _ (rowMajor_val2 _ _ rfl) (rowMajor_val4 _ _ _ _ rfl rfl rfl) ?_)
  show r.val * 128 + q.val = a.val * (2 * (s * 128)) + b.val * (s * 128) + c.val * 128 + q.val
  rw [hr]; ring

/-- The rejoined block, read. -/
theorem rejoin_read (h : (Pairs n s).ShapeCasts (Rows 1024)) (v : (Pairs n s).Idx → β) (a : Fin n) (b : Fin 2) (c : Fin s) (q : Fin 128)
    (r : Fin 1024) (hr : r.val = (a.val * 2 + b.val) * s + c.val) : shapeCast (Rows 1024) v h (ix2 r q) = v (ix4 a b c q) := by
  refine congrArg v (Shape.reshapeEquiv_eq_of_vals h _ _ _ _ (rowMajor_val4 _ _ _ _ rfl rfl rfl) (rowMajor_val2 _ _ rfl) ?_)
  show a.val * (2 * (s * 128)) + b.val * (s * 128) + c.val * 128 + q.val = r.val * 128 + q.val
  rw [hr]; ring

/-- A run with its axis dropped, read. -/
theorem drop_read (h : (Run1 n s).ShapeCasts (Run n s)) (v : (Run1 n s).Idx → β) (a : Fin n) (c : Fin s) (q : Fin 128) :
    shapeCast (Run n s) v h (ix3 a c q) = v (ix4 a 0 c q) := by
  refine congrArg v (Shape.reshapeEquiv_eq_of_vals h _ _ _ _ (rowMajor_val4 _ _ _ _ rfl rfl rfl) (rowMajor_val3 _ _ _ rfl rfl) ?_)
  show a.val * (1 * (s * 128)) + 0 * (s * 128) + c.val * 128 + q.val = a.val * (s * 128) + c.val * 128 + q.val
  ring

/-- A run with its axis put back, read. -/
theorem keep_read (h : (Run n s).ShapeCasts (Run1 n s)) (v : (Run n s).Idx → β) (a : Fin n) (c : Fin s) (q : Fin 128) :
    shapeCast (Run1 n s) v h (ix4 a 0 c q) = v (ix3 a c q) := by
  refine congrArg v (Shape.reshapeEquiv_eq_of_vals h _ _ _ _ (rowMajor_val3 _ _ _ rfl rfl) (rowMajor_val4 _ _ _ _ rfl rfl rfl) ?_)
  show a.val * (s * 128) + c.val * 128 + q.val = a.val * (1 * (s * 128)) + 0 * (s * 128) + c.val * 128 + q.val
  ring

/-- The first run, read. -/
theorem runA_read (h : HighOK n s) (v : FVec Ideal (Rows 1024) .bf16) (a : Fin n) (c : Fin s) (q : Fin 128) (r : Fin 1024)
    (hr : r.val = (a.val * 2 + 0) * s + c.val) : runA h v (ix3 a c q) = v (ix2 r q) := by
  unfold runA
  rw [drop_read, slice4_axis1_apply 0 _ h.fst a 0 c q 0 rfl, cut_read h.cut v a 0 c q r hr]

/-- The second run, read. -/
theorem runB_read (h : HighOK n s) (v : FVec Ideal (Rows 1024) .bf16) (a : Fin n) (c : Fin s) (q : Fin 128) (r : Fin 1024)
    (hr : r.val = (a.val * 2 + 1) * s + c.val) : runB h v (ix3 a c q) = v (ix2 r q) := by
  unfold runB
  rw [drop_read, slice4_axis1_apply 1 _ h.snd a 0 c q 1 rfl, cut_read h.cut v a 1 c q r hr]

/-- The mask of the groups, read. -/
theorem grpMask_read (h : HighOK n s) {d k blk : ℕ} (hb : blk = 2 ^ k) (hk : k < 32) (hd : d < 8) (a : Fin n) (c : Fin s) (q : Fin 128)
    (ha : a.val * (2 * s) < 1024) :
    grpMask h blk (BitVec.ofNat 32 (1024 * d)) (ix3 a c q) = BitVec.ofBool (decide ((1024 * d + a.val * (2 * s)) / 2 ^ k % 2 = 0)) := by
  subst hb
  have hx : 1024 * d + a.val * (2 * s) < 2 ^ 32 := by omega
  unfold grpMask
  rw [broadcastTo_apply _ h.bcast (ix3 a c q) (ix3 a 0 0) (fun x => by
      match x with
      | ⟨0, _⟩ =>
        show a.val = if n = 1 then 0 else a.val
        split
        · have := a.isLt; omega
        · rfl
      | ⟨1, _⟩ => rfl
      | ⟨2, _⟩ => rfl),
    shapeCast_id]
  unfold grpBit
  rw [← word_clear hx hk]
  show IntOp.cmpi .eq (IntOp.andi (BitVec.ofNat 32 (0 * n + a.val) * BitVec.ofNat 32 (2 * s) + BitVec.ofNat 32 (1024 * d)) _) _ = _
  rw [← BitVec.ofNat_mul, ← BitVec.ofNat_add, Nat.zero_mul, Nat.zero_add, Nat.add_comm]
  rfl

/-- The rows of a group's two runs: their bit at the distance, and the bits above it. -/
theorem grp_bits {a b c j k d : ℕ} (hb : b < 2) (hc : c < 2 ^ j) (hj : j < 10) (hk : j < k) :
    (1024 * d + ((a * 2 + b) * 2 ^ j + c)) / 2 ^ j % 2 = b
      ∧ (1024 * d + ((a * 2 + b) * 2 ^ j + c)) / 2 ^ k = (1024 * d + a * (2 * 2 ^ j)) / 2 ^ k := by
  obtain ⟨m, rfl⟩ : ∃ m, k = j + 1 + m := ⟨k - j - 1, by omega⟩
  obtain ⟨e, he⟩ : ∃ e, 1024 = 2 ^ j * (2 * e) := ⟨2 ^ (9 - j), by
    rw [← Nat.pow_succ', ← Nat.pow_add, show j + (9 - j + 1) = 10 by omega]⟩
  have h1 : 1024 * d + ((a * 2 + b) * 2 ^ j + c) = c + 2 ^ j * (2 * (e * d + a) + b) := by rw [he]; ring
  have h2 : 1024 * d + a * (2 * 2 ^ j) = 0 + 2 ^ j * (2 * (e * d + a)) := by rw [he]; ring
  have h3 : (c + 2 ^ j * (2 * (e * d + a) + b)) / 2 ^ j = 2 * (e * d + a) + b := by
    rw [Nat.add_mul_div_left _ _ (Nat.two_pow_pos j), Nat.div_eq_of_lt hc, Nat.zero_add]
  have h4 : (0 + 2 ^ j * (2 * (e * d + a))) / 2 ^ j = 2 * (e * d + a) := by
    rw [Nat.add_mul_div_left _ _ (Nat.two_pow_pos j), Nat.zero_div, Nat.zero_add]
  refine ⟨by rw [h1, h3]; omega, ?_⟩
  rw [h1, h2, Nat.pow_add, Nat.pow_add, ← Nat.div_div_eq_div_mul, ← Nat.div_div_eq_div_mul, ← Nat.div_div_eq_div_mul,
    ← Nat.div_div_eq_div_mul, h3, h4]
  congr 1
  omega

/-- A stage at a long distance is a step. -/
theorem highStep_read (h : HighOK n s) {j k blk d : ℕ} (hs : s = 2 ^ j) (hn : n * (2 * s) = 1024) (hj : j < 10) (hjk : j < k) (hk : k < 32)
    (hb : blk = 2 ^ k) (hd : d < 8) {q : Fin 128} {v : FVec Ideal (Rows 1024) .bf16} {V : ℕ → EReal} (hv : Reads q d v V) :
    Reads q d (highStep h blk (BitVec.ofNat 32 (1024 * d)) v) (cmpStep k j V) := by
  intro r
  have hs0 : 0 < s := by rw [hs]; exact Nat.two_pow_pos j
  have hr := r.isLt
  obtain ⟨a, b, c, hr'⟩ : ∃ (a : Fin n) (b : Fin 2) (c : Fin s), r.val = (a.val * 2 + b.val) * s + c.val := by
    refine ⟨⟨r.val / s / 2, ?_⟩, ⟨r.val / s % 2, by omega⟩, ⟨r.val % s, Nat.mod_lt _ hs0⟩, ?_⟩
    · rw [Nat.div_div_eq_div_mul, Nat.div_lt_iff_lt_mul (by omega), Nat.mul_comm s 2, hn]; exact hr
    · show r.val = (r.val / s / 2 * 2 + r.val / s % 2) * s + r.val % s
      rw [Nat.div_add_mod', Nat.div_add_mod']
  have ha : (a.val + 1) * (2 * s) ≤ 1024 := by rw [← hn]; exact Nat.mul_le_mul_right _ a.isLt
  have hc := c.isLt
  have hA : (a.val * 2 + 0) * s + c.val < 1024 := by nlinarith
  have hB : (a.val * 2 + 1) * s + c.val < 1024 := by nlinarith
  have hbits := grp_bits (a := a.val) (b := b.val) (c := c.val) (d := d) b.isLt (hs ▸ hc) hj hjk
  rw [← hs, ← hr'] at hbits
  have hm := grpMask_read h hb hk hd a c q (by nlinarith)
  rw [← hbits.2] at hm
  have hra := (runA_read h v a c q ⟨_, hA⟩ rfl).trans (hv _)
  have hrb := (runB_read h v a c q ⟨_, hB⟩ rfl).trans (hv _)
  unfold highStep cmpStep pairRow
  rw [rejoin_read h.join _ a b c q r hr', ← hs, hbits.1]
  rcases (by omega : b.val = 0 ∨ b.val = 1) with h0 | h1
  · obtain rfl : b = 0 := Fin.ext h0
    have y0 : 1024 * d + ((a.val * 2 + 0) * s + c.val) = 1024 * d + r.val := by rw [hr']; rfl
    have y1 : 1024 * d + ((a.val * 2 + 1) * s + c.val) = 1024 * d + r.val + s := by rw [hr', h0]; ring
    rw [concatenate_pair_apply_left 1 _ _ h.cat (ix4 a 0 c q) rfl (ix4 a 0 c q)
      (fun x => by match x with | ⟨0, _⟩ => rfl | ⟨1, _⟩ => rfl | ⟨2, _⟩ => rfl | ⟨3, _⟩ => rfl), keep_read, select_apply, hm, select_bit,
      minimumf_apply, maximumf_apply, hra, hrb, y0, y1, h0, if_pos rfl]
    rcases Nat.mod_two_eq_zero_or_one ((1024 * d + r.val) / 2 ^ k) with h | h <;> simp [h]
  · obtain rfl : b = 1 := Fin.ext h1
    have y0 : 1024 * d + ((a.val * 2 + 0) * s + c.val) = 1024 * d + r.val - s := by
      rw [show (a.val * 2 + 0) * s + c.val = r.val - s by rw [hr', h1]; apply Nat.eq_sub_of_add_eq; ring]
      have : s ≤ r.val := by rw [hr', h1]; nlinarith
      omega
    have y1 : 1024 * d + ((a.val * 2 + 1) * s + c.val) = 1024 * d + r.val := by rw [hr']; rfl
    rw [concatenate_pair_apply_right 1 _ _ h.cat (ix4 a 1 c q) rfl rfl (ix4 a 0 c q)
      (fun x hx => by match x with | ⟨0, _⟩ => rfl | ⟨1, _⟩ => exact absurd rfl hx | ⟨2, _⟩ => rfl | ⟨3, _⟩ => rfl) rfl,
      keep_read, select_apply, hm, select_bit,
      minimumf_apply, maximumf_apply, hra, hrb, y0, y1, h1, if_neg Nat.one_ne_zero, min_comm, max_comm]
    rcases Nat.mod_two_eq_zero_or_one ((1024 * d + r.val) / 2 ^ k) with h | h <;> simp [h]

end High

/-! ## The stages of a phase, the local sort -/

/-- Every stage is a step. -/
theorem stage_read {k j d : ℕ} (hj : j < 10) (hjk : j < k) (hk : k < 32) (hd : d < 8) {q : Fin 128}
    {v : FVec Ideal (Rows 1024) .bf16} {V : ℕ → EReal} (hv : Reads q d v V) :
    Reads q d (stage k (BitVec.ofNat 32 (1024 * d)) j v) (cmpStep k j V) := by
  interval_cases j
  · exact lowStep_read low1 rfl (by decide) hk rfl hd hv
  · exact lowStep_read low2 rfl (by decide) hk rfl hd hv
  · exact lowStep_read low4 rfl (by decide) hk rfl hd hv
  · exact lowStep_read low8 rfl (by decide) hk rfl hd hv
  · exact highStep_read high16 rfl rfl (by decide) hjk hk rfl hd hv
  · exact highStep_read high32 rfl rfl (by decide) hjk hk rfl hd hv
  · exact highStep_read high64 rfl rfl (by decide) hjk hk rfl hd hv
  · exact highStep_read high128 rfl rfl (by decide) hjk hk rfl hd hv
  · exact highStep_read high256 rfl rfl (by decide) hjk hk rfl hd hv
  · exact highStep_read high512 rfl rfl (by decide) hjk hk rfl hd hv

/-- The stages of a phase are its steps. -/
theorem stages_read {k d : ℕ} (n : ℕ) (hn : n ≤ 10) (hnk : n ≤ k) (hk : k < 32) (hd : d < 8) {q : Fin 128}
    {v : FVec Ideal (Rows 1024) .bf16} {V : ℕ → EReal} (hv : Reads q d v V) :
    Reads q d (stages k (BitVec.ofNat 32 (1024 * d)) n v) (cmpSteps k n V) := by
  induction n generalizing v V with
  | zero => exact hv
  | succ n ih => exact ih (by omega) (by omega) (stage_read (by omega) (by omega) hk hd hv)

/-- The local sort is the first phases. -/
theorem localSort_read {d : ℕ} (n : ℕ) (hn : n ≤ 10) (hd : d < 8) {q : Fin 128}
    {v : FVec Ideal (Rows 1024) .bf16} {V : ℕ → EReal} (hv : Reads q d v V) :
    Reads q d (localSort (BitVec.ofNat 32 (1024 * d)) n v) (phases n V) := by
  induction n with
  | zero => exact hv
  | succ n ih => exact stages_read (n + 1) hn le_rfl (by omega) hd (ih (by omega))

/-! ## Chunks -/

/-- Column `q` of the four chunks of the device `d` is `V` at the numbers of the device's rows. -/
def ReadsC (q : Fin 128) (d : ℕ) (C : Fin 4 → FVec Ideal (Rows 256) .bf16) (V : ℕ → EReal) : Prop :=
  ∀ (h : Fin 4) (r : Fin 256), C h (ix2 r q) = V (1024 * d + (256 * h.val + r.val))

/-- The chunks of a block. -/
theorem chunk_read {q : Fin 128} {d : ℕ} {v : FVec Ideal (Rows 1024) .bf16} {V : ℕ → EReal} (hv : Reads q d v V) :
    ReadsC q d (chunk v) V := by
  intro h r
  unfold chunk
  rw [slice2_axis0_apply (256 * h.val) v (chunk_ok h) r q ⟨256 * h.val + r.val, by omega⟩ rfl, hv]

/-- The block of the chunks. -/
theorem join_read {q : Fin 128} {d : ℕ} {C : Fin 4 → FVec Ideal (Rows 256) .bf16} {V : ℕ → EReal} (hC : ReadsC q d C V) :
    Reads q d (join C) V := by
  intro r
  have hr := r.isLt
  obtain ⟨h, a, e⟩ : ∃ (h : Fin 4) (a : Fin 256), r.val = 256 * h.val + a.val :=
    ⟨⟨r.val / 256, by omega⟩, ⟨r.val % 256, by omega⟩, (Nat.div_add_mod _ _).symm⟩
  rw [e, ← hC h a]
  have h4 := concatenate_ofFn_apply (t := Rows 1024) (s₁ := Rows 256) 0 C concatenates_S256x128_S256x128_S256x128_S256x128_S1024x128_d0
    rfl 256 rfl (ix2 r q) h (by show r.val / 256 = h.val; omega) (ix2 a q) (by show a.val = r.val % 256; omega)
    (fun b hb => by match b with | ⟨0, _⟩ => exact absurd rfl hb | ⟨1, _⟩ => rfl)
  exact h4

end Cert.Sort
-- ==== Proof.Value.lean ====
/- What the devices hold, column by column: an exchange is a compare-exchange step over all rows, and the kernel's result
   is the phases of the whole network. -/
module

public import proofs.«01_k».proof.Proof.Read
public import proofs.«01_k».proof.Proof.Whole

@[expose] public section

noncomputable section

namespace Cert.Sort

open Idealize.ShloMosaic hiding ix2 ix3 ix4
open Idealize.ShloMosaic.ValueIdx Cert.KernelIdeal Cert.KernelIdeal.Gen

/-! ## The devices' numbers -/

/-- The word of the number of a device's first row. -/
theorem off_eq (d : Dev nD) : off d = BitVec.ofNat 32 (1024 * d.val) := by revert d; decide +kernel

/-- The neighbour's number differs in one bit. -/
theorem nbr_val (t : Fin 3) (d : Dev nD) :
    if d.val / 2 ^ t.val % 2 = 0 then (nbr t d).val = d.val + 2 ^ t.val else (nbr t d).val + 2 ^ t.val = d.val := by
  revert t d; decide +kernel

/-- A device keeps the smaller entries where the two bits of its number agree. -/
theorem keepMin_eq (e : Fin 6) (d : Dev nD) :
    keepMin e (off d) = BitVec.ofBool (decide (d.val / 2 ^ (planT e).val % 2 = d.val / 2 ^ (planK e - 10) % 2)) := by
  revert e d; decide +kernel

/-- The phase of an exchange comes after the local ones. -/
theorem planK_ge (e : Fin 6) : 10 ≤ planK e := by revert e; decide

/-- A high bit of a row's number is a bit of its device's. -/
theorem high_bit {x : ℕ} (hx : x < 1024) (d t : ℕ) : (1024 * d + x) / 2 ^ (10 + t) = d / 2 ^ t := by
  rw [Nat.pow_add, ← Nat.div_div_eq_div_mul]
  congr 1
  omega

/-- The partner of a row at a high distance is the same row of the neighbour. -/
theorem pairRow_nbr {x : ℕ} (hx : x < 1024) (t : Fin 3) (d : Dev nD) :
    pairRow (10 + t.val) (1024 * d.val + x) = 1024 * (nbr t d).val + x := by
  have h := nbr_val t d
  have hp : 2 ^ (10 + t.val) = 1024 * 2 ^ t.val := Nat.pow_add 2 10 t.val
  unfold pairRow
  rw [high_bit hx, hp]
  split_ifs at h ⊢ with hb <;> omega

/-! ## The exchanges -/

variable {q : Fin 128} {V : ℕ → EReal}

/-- An exchange is a step at the distance of the neighbour's rows. -/
theorem got_read (e : Fin 6) {S : Dev nD → Fin 4 → FVec Ideal S256x128 .bf16} (hS : ∀ d : Dev nD, ReadsC q d.val (S d) V) (d : Dev nD) :
    ReadsC q d.val (got e S d) (cmpStep (planK e) (10 + (planT e).val) V) := by
  intro h r
  have hx : 256 * h.val + r.val < 1024 := by omega
  have hk : planK e = 10 + (planK e - 10) := (Nat.add_sub_of_le (planK_ge e)).symm
  unfold got combine
  rw [keepMin_eq, select_bit, cmpStep, pairRow_nbr hx, high_bit hx, hk, high_bit hx, ← hk, ← hS d h r, ← hS (nbr (planT e) d) h r]
  by_cases hb : d.val / 2 ^ (planT e).val % 2 = d.val / 2 ^ (planK e - 10) % 2
  · rw [if_pos hb, decide_eq_true hb, if_pos rfl]; rfl
  · rw [if_neg hb, decide_eq_false hb, if_neg (by decide)]; rfl

/-- The stages after an exchange are the steps below it. -/
theorem turn_read (k : ℕ) (hk : 10 ≤ k) (hk' : k < 32) {S : Dev nD → Fin 4 → FVec Ideal S256x128 .bf16}
    (hS : ∀ d : Dev nD, ReadsC q d.val (S d) V) (d : Dev nD) : ReadsC q d.val (turn k S d) (cmpSteps k 10 V) := by
  unfold turn
  rw [off_eq]
  exact chunk_read (stages_read 10 le_rfl hk hk' d.isLt (join_read (hS d)))

/-! ## The whole of a column -/

/-- Column `col` of the devices' blocks, by the number of the row. -/
def column (x : Dev nD → Vec Ideal S1024x256 .bf16) (col : Fin 256) (i : ℕ) : EReal :=
  x ⟨i / 1024 % 8, Nat.mod_lt _ (by decide)⟩ (ix2 (n0 := 1024) (n1 := 256) ⟨i % 1024, Nat.mod_lt _ (by decide)⟩ col)

/-- At a device's own rows the column is the device's. -/
theorem column_at (x : Dev nD → Vec Ideal S1024x256 .bf16) (col : Fin 256) (d : Dev nD) (r : Fin 1024) :
    column x col (1024 * d.val + r.val) = x d (ix2 r col) := by
  have hd : d.val < 8 := d.isLt
  have hr := r.isLt
  have h1 : (⟨(1024 * d.val + r.val) / 1024 % 8, Nat.mod_lt _ (by decide)⟩ : Dev nD) = d := Fin.ext (by dsimp only; omega)
  have h2 : (⟨(1024 * d.val + r.val) % 1024, Nat.mod_lt _ (by decide)⟩ : Fin 1024) = r := Fin.ext (by dsimp only; omega)
  unfold column
  rw [h1, h2]

variable (x : Dev nD → Vec Ideal S1024x256 .bf16)

/-- A half of the block reads its columns. -/
theorem half_read (g : Fin 2) (q : Fin 128) (col : Fin 256) (hc : col.val = 128 * g.val + q.val) (d : Dev nD) :
    Reads q d.val (half (x d) g) (column x col) := by
  intro r
  rw [column_at]
  unfold half
  refine (congrFun (shapeCast_id _ _) _).trans ?_
  show x d _ = x d _
  congr 1
  funext a
  match a with
  | ⟨0, _⟩ => exact Fin.ext (by show 0 + 1 * r.val = r.val; omega)
  | ⟨1, _⟩ => exact Fin.ext (by show 128 * g.val + 1 * q.val = col.val; omega)

/-- Each device's result reads its rows of the sorted column. -/
theorem result_read (g : Fin 2) (q : Fin 128) (col : Fin 256) (hc : col.val = 128 * g.val + q.val) (d : Dev nD) :
    Reads q d.val (result x g d) (phases 13 (column x col)) := by
  have h0 : ∀ d : Dev nD, ReadsC q d.val (sent0 x g d) (phases 10 (column x col)) := fun d => by
    unfold sent0
    rw [off_eq]
    exact chunk_read (localSort_read 10 le_rfl d.isLt (half_read x g q col hc d))
  have h1 : ∀ d : Dev nD, ReadsC q d.val (sent1 x g d) (phases 11 (column x col)) :=
    turn_read 11 (by decide) (by decide) (got_read 0 h0)
  have h3 : ∀ d : Dev nD, ReadsC q d.val (sent3 x g d) (phases 12 (column x col)) :=
    turn_read 12 (by decide) (by decide) (got_read 2 (got_read 1 h1))
  have h5 := got_read 5 (got_read 4 (got_read 3 h3)) d
  unfold result
  rw [off_eq]
  exact stages_read 10 le_rfl (by decide) (by decide) d.isLt (join_read h5)

/-- A device's whole result, at a row and a column. -/
theorem outV_read (d : Dev nD) (r : Fin 1024) (col : Fin 256) :
    outV x d (ix2 r col) = phases 13 (column x col) (1024 * d.val + r.val) := by
  have h := result_read x ⟨col.val / 128, by omega⟩ ⟨col.val % 128, Nat.mod_lt _ (by decide)⟩ col (Nat.div_add_mod _ _).symm d r
  rw [← h]
  unfold outV
  congr 1
  funext a
  match a with
  | ⟨0, _⟩ => rfl
  | ⟨1, _⟩ => rfl

end Cert.Sort
-- ==== Proof.Order.lean ====
/- The reference's sort over the extended reals: each column in ascending order, the same entries. -/
module

public import proofs.«01_k».proof.Proof.Bitonic
public import proofs.«01_k».proof.Proof.Gen.ReferenceIdeal.Run
public import Idealize.ShloMosaic.Lib.SortFacts
public import Idealize.ShloMosaic.PureOps.Ideal.Laws
public import Idealize.ShloMosaic.Lib.ValueIdx
public import Mathlib.Data.List.Sort
public import Mathlib.Data.List.FinRange
public import Mathlib.Data.List.OfFn

@[expose] public section

noncomputable section

namespace Cert.Sort

open Idealize.ShloMosaic
open Idealize.ShloMosaic.ValueIdx

/-- Over the extended reals the comparator is the order. -/
theorem comparator_eq (l r : EReal) :
    Cert.ReferenceIdeal.comparator_f32_d0 (F := Ideal) l r = BitVec.ofBool (decide (l < r)) := by
  have pick : ∀ y : EReal, Scalar.select (Ideal.cmp .une y y) (Ideal.ofBits .f32 0x7FC00000#32)
      (Scalar.select (Ideal.cmp .oeq y (Ideal.ofBits .f32 0x00000000#32)) (Ideal.ofBits .f32 0x00000000#32) y) = y := fun y => by
    have h1 : Ideal.cmp .une y y = 0#1 := by simp [Ideal.cmp]
    rw [h1, Idealize.ShloMosaic.Ideal.ofBits_zero_f32]
    show Scalar.select (Ideal.cmp .oeq y 0) 0 y = y
    by_cases hy : y = 0
    · subst hy; simp [Ideal.cmp, Scalar.select]
    · simp [Ideal.cmp, Scalar.select, hy]
  show Ideal.cmp .olt _ _ = _
  have hl := pick l
  have hr := pick r
  exact (congrArg₂ (Ideal.cmp .olt) hl hr).trans rfl

/-- The column that a stable sort by the order leaves. -/
theorem sortedFrom_column {n : ℕ} (y : Fin n → EReal) :
    (Monotone fun i => y (sortedFrom (fun k k' => BitVec.ofBool (decide (y k < y k')) == 1#1) i)) ∧
      ∃ σ : Equiv.Perm (Fin n), (fun i => y (sortedFrom (fun k k' => BitVec.ofBool (decide (y k < y k')) == 1#1) i)) = y ∘ σ := by
  have hB : (fun k k' => BitVec.ofBool (decide (y k < y k')) == 1#1) = fun k k' => decide (y k < y k') := by
    funext k k'
    by_cases h : y k < y k' <;> simp [h]
  rw [hB]
  refine ⟨fun i j hij => ?_, Equiv.ofBijective _ ⟨sortedFrom_injective _, sortedFrom_surjective _⟩, rfl⟩
  rcases eq_or_lt_of_le hij with rfl | hlt
  · exact le_rfl
  have h := sortedFrom_noInversion (fun k k' => decide (y k < y k')) (fun k k' => decide (y k < y k'))
    (fun a b h => decide_eq_false (not_lt.mpr (le_of_lt (of_decide_eq_true h))))
    (fun a b h => h)
    (fun a b c h h' => decide_eq_false (not_lt.mpr (le_trans (not_lt.mp (of_decide_eq_false h')) (not_lt.mp (of_decide_eq_false h)))))
    i j hlt
  exact not_lt.mp (of_decide_eq_false h)

/-- Two ascending rearrangements of the same entries are equal. -/
theorem ascending_unique {n : ℕ} {y : Fin n → EReal} {σ τ : Equiv.Perm (Fin n)} (hσ : Monotone (y ∘ σ)) (hτ : Monotone (y ∘ τ)) :
    y ∘ σ = y ∘ τ := by
  have asc : ∀ {f : Fin n → EReal}, Monotone f → (List.ofFn f).Pairwise (· ≤ ·) := fun hf => by
    rw [List.pairwise_ofFn]
    exact fun i j hij => hf (le_of_lt hij)
  exact List.ofFn_injective (List.Perm.eq_of_pairwise (fun _ _ _ _ h h' => le_antisymm h h') (asc hσ) (asc hτ)
    ((Equiv.Perm.ofFn_comp_perm σ y).trans (Equiv.Perm.ofFn_comp_perm τ y).symm))

/-- The network and the stable sort leave the same column. -/
theorem phases_eq_sorted {n : ℕ} (hn : n = 2 ^ 13) (V : ℕ → EReal) (i : Fin n) :
    phases 13 V i.val = V (sortedFrom (fun k k' : Fin n => BitVec.ofBool (decide (V k.val < V k'.val)) == 1#1) i).val := by
  subst hn
  obtain ⟨mono, σ, hσ⟩ := phases_sorted 13 V
  obtain ⟨mono', τ, hτ⟩ := sortedFrom_column fun k : Fin (2 ^ 13) => V k.val
  have h := ascending_unique (y := fun k : Fin (2 ^ 13) => V k.val) (σ := σ) (τ := τ) (hσ ▸ mono) (hτ ▸ mono')
  exact congrFun (hσ.trans (h.trans hτ.symm)) i

/-- The reference's result, at a row and a column of the whole array. -/
theorem ref_read (w : Vec Ideal Cert.ReferenceIdeal.S8192x256 .bf16) (V : ℕ → EReal) (col : Fin 256)
    (hV : ∀ i : Fin 8192, V i.val = w (ix2 i col)) (i : Fin 8192) :
    truncf .bf16 (Host.sort Cert.ReferenceIdeal.S8192x256 0 (Cert.ReferenceIdeal.comparator_f32_d0 (F := Ideal))
      (extf .f32 w Cert.ReferenceIdeal.Gen.bitsLt_bf16_f32)) Cert.ReferenceIdeal.Gen.bitsLt_bf16_f32 (ix2 i col) = phases 13 V i.val := by
  have hd : 0 < Cert.ReferenceIdeal.S8192x256.rank := by decide
  have along : ∀ k : Fin (Cert.ReferenceIdeal.S8192x256.size ⟨0, hd⟩),
      w (Shape.Idx.along (s := Cert.ReferenceIdeal.S8192x256) (ix2 i col) ⟨0, hd⟩ k) = V k.val := fun k => by
    rw [hV k]
    congr 1
    funext a
    match a with
    | ⟨0, _⟩ => rfl
    | ⟨1, _⟩ => rfl
  have hs : Host.sort Cert.ReferenceIdeal.S8192x256 0 (Cert.ReferenceIdeal.comparator_f32_d0 (F := Ideal)) w (ix2 i col) = _ := dif_pos hd
  refine hs.trans ((along _).trans ?_)
  simp only [comparator_eq, along]
  exact (phases_eq_sorted (by decide) V i).symm

end Cert.Sort
-- ==== Proof.Result.lean ====
/- What the launch leaves in the result's buffers, against the reference's sorted array. -/
module

public import proofs.«01_k».proof.Proof.Value
public import proofs.«01_k».proof.Proof.Order
public import proofs.«01_k».proof.Proof.Launch
public import Idealize.ShloMosaic.Lib.Layout

@[expose] public section

noncomputable section

namespace Cert.Sort

open Idealize.ShloMosaic hiding ix2 ix3 ix4
open Idealize.ShloMosaic.ValueIdx Idealize.ShloMosaic.TcCoe Cert.KernelIdeal Cert.KernelIdeal.Gen

variable {F : FTy → Type} [FloatOps F]
variable (m : (ℓ : Loc nD τ sig) → Buf (Elt F) ℓ) (ρ : Dev nD → PrngReg)

/-- A device's block is its whole argument. -/
theorem xs_eq (c : Dev nD) : xs m ρ c = m ((c : Thread nD τ).loc main_arg0) :=
  Memref.read_access_unit_zero (Elt F) main_arg0 (funext fun a => by fin_cases a <;> decide) (fun a => by fin_cases a <;> decide) _

/-- The result's buffer ends at what the body left. -/
theorem finalA_o (c : Dev nD) : finalA m ρ c (1 : Fin 2) = outV (xs m ρ) c := by
  have h : (win0_1.blk (0 : Fin 1)).view.read (Elt F) (finalA m ρ c (1 : Fin 2)) = outV (xs m ρ) c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1 (funext fun a => by fin_cases a <;> decide) (fun a => by fin_cases a <;> decide) _).symm.trans h

/-- The reference's result of the whole array. -/
def sorted (w : Vec Ideal Cert.ReferenceIdeal.S8192x256 .bf16) : Vec Ideal Cert.ReferenceIdeal.S8192x256 .bf16 :=
  truncf .bf16 (Host.sort Cert.ReferenceIdeal.S8192x256 0 (Cert.ReferenceIdeal.comparator_f32_d0 (F := Ideal))
    (extf .f32 w Cert.ReferenceIdeal.Gen.bitsLt_bf16_f32)) Cert.ReferenceIdeal.Gen.bitsLt_bf16_f32

/-- When the devices hold the blocks of an array, their results are the blocks of the reference's result. -/
theorem outV_block (x : Dev nD → Vec Ideal S1024x256 .bf16) (w : Vec Ideal Cert.ReferenceIdeal.S8192x256 .bf16)
    (h : Layout.Tiles S1024x256 Cert.ReferenceIdeal.S8192x256 0 8)
    (hx : ∀ c : Dev nD, x c = Layout.block S1024x256 Cert.ReferenceIdeal.S8192x256 0 8 c w h) (c : Dev nD) :
    outV x c = Layout.block S1024x256 Cert.ReferenceIdeal.S8192x256 0 8 c (sorted w) h := by
  have at_block : ∀ (c : Dev nD) (r : Fin 1024) (col : Fin 256) (i : Fin 8192), i.val = 1024 * c.val + r.val →
      h.idx c (ix2 r col) = ix2 i col := fun c r col i hi => by
    funext a
    match a with
    | ⟨0, _⟩ => exact Fin.ext (by show c.val * 1024 + r.val = i.val; omega)
    | ⟨1, _⟩ => rfl
  have hV : ∀ (col : Fin 256) (i : Fin 8192), column x col i.val = w (ix2 i col) := fun col i => by
    have hi := i.isLt
    obtain ⟨d, r, e⟩ : ∃ (d : Dev nD) (r : Fin 1024), i.val = 1024 * d.val + r.val :=
      ⟨⟨i.val / 1024, show i.val / 1024 < 8 by omega⟩, ⟨i.val % 1024, by omega⟩, (Nat.div_add_mod _ _).symm⟩
    rw [e, column_at, hx d, Layout.block_apply, at_block d r col i e]
  have hc : c.val < 8 := c.isLt
  funext j
  have hj : j = ix2 (n0 := 1024) (n1 := 256) (j 0) (j 1) := by
    funext a
    match a with
    | ⟨0, _⟩ => rfl
    | ⟨1, _⟩ => rfl
  have hr : (j 0).val < 1024 := (j 0).isLt
  have hi : 1024 * c.val + (j 0).val < 8192 := by omega
  rw [hj, Layout.block_apply, at_block c (j 0) (j 1) ⟨1024 * c.val + (j 0).val, hi⟩ rfl]
  refine (outV_read x c (j 0) (j 1)).trans ?_
  exact (ref_read w (column x (j 1)) (j 1) (hV (j 1)) ⟨1024 * c.val + (j 0).val, hi⟩).symm

end Cert.Sort
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Result
public import Idealize.ShloMosaic.Adequacy
public import Idealize.ShloMosaic.Init

@[expose] public section

noncomputable section

namespace Cert.Proof

open Idealize.ShloMosaic Idealize.SL.Sem

/-- The kernel's run over the extended reals ends, keeps the argument and leaves every counter at zero. -/
theorem frame_ideal : Cert.quiescent_KernelIdeal := fun m ρ _ =>
  (θ_run Cert.KernelIdeal.defs _ _).mono (fun _ h => ⟨fun c => (h.1 c (0 : Fin 2)).trans (Cert.Sort.finalA_x m ρ c), h.2⟩)
    (Cert.Sort.run_main (F := Ideal) m ρ)

set_option maxRecDepth 20000 in
/-- Both programs' kernels have the same body; -/
theorem bodies_eq : Cert.Kernel.defs₀ (F := Bits) = Cert.KernelIdeal.defs₀ (F := Bits) := by
  unfold Cert.Kernel.defs₀ Cert.KernelIdeal.defs₀
  refine congrArg (Defs.onTc (Λ := Cert.Kernel.Λ₀)) ?_
  funext a b
  match a, b with
  | ⟨0, _⟩, (t, s) => rfl
  | ⟨n + 1, h⟩, _ => exact absurd h (Nat.not_lt.2 (Nat.le_add_left _ _))

set_option maxRecDepth 20000 in
/-- so what they call is the same. -/
theorem defs_eq : Cert.Kernel.defs (F := Bits) = Cert.KernelIdeal.defs (F := Bits) := by
  show Pipeline.defs (Cert.Kernel.pcfgs (F := Bits)) Cert.Kernel.defs₀ = _
  rw [bodies_eq]
  rfl

/-- The kernel's run over words: the same. -/
theorem frame_kernel : Cert.quiescent_Kernel := by
  intro m ρ _
  rw [defs_eq]
  exact (θ_run (Cert.KernelIdeal.defs (F := Bits)) _ _).mono (fun _ h => ⟨fun c => (h.1 c (0 : Fin 2)).trans (Cert.Sort.finalA_x m ρ c), h.2⟩)
    (Cert.Sort.run_main (F := Bits) m ρ)

/-- The reference's run: three host operations, no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel leaves on each device its block of the columns that the reference sorts. -/
theorem algebraic : Cert.algebraic_KernelIdeal_ReferenceIdeal := by
  intro m ρ m' ρ' _ hagree
  refine ⟨Cert.Sort.sorted (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, (h.1 c (0 : Fin 2)).trans (Cert.Sort.finalA_x m ρ c)⟩) (Cert.Sort.run_main (F := Ideal) m ρ)
    exact (h.1 c (1 : Fin 2)).trans ((Cert.Sort.finalA_o m ρ c).trans
      (Cert.Sort.outV_block (Cert.Sort.xs m ρ) _ (by decide) (fun d => (Cert.Sort.xs_eq m ρ d).trans (hagree d)) c))
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_ref, trivial, algebraic⟩

end Cert.Proof

end
